-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj [hPre_rows_in_range : Cert.Pre_rows_in_range.Facts] (m : (ℓ : Loc Cert.InProj.nD Cert.InProj.τ Cert.InProj.sig) → Buf (Elt Bits) ℓ) : Prop :=
  ∀ c : Dev Cert.InProj.nD,
    (Cert.Pre_rows_in_range.fn (F := Bits) (m ((c.tc : Thread Cert.InProj.nD Cert.InProj.τ).loc Cert.InProj.main_arg0)) (m ((c.tc : Thread Cert.InProj.nD Cert.InProj.τ).loc Cert.InProj.main_arg1)) (m ((c.tc : Thread Cert.InProj.nD Cert.InProj.τ).loc Cert.InProj.main_arg2)) (m ((c.tc : Thread Cert.InProj.nD Cert.InProj.τ).loc Cert.InProj.main_arg3)) (m ((c.tc : Thread Cert.InProj.nD Cert.InProj.τ).loc Cert.InProj.main_arg4)) (m ((c.tc : Thread Cert.InProj.nD Cert.InProj.τ).loc Cert.InProj.main_arg5)) (m ((c.tc : Thread Cert.InProj.nD Cert.InProj.τ).loc Cert.InProj.main_arg6)) (m ((c.tc : Thread Cert.InProj.nD Cert.InProj.τ).loc Cert.InProj.main_arg7)) (m ((c.tc : Thread Cert.InProj.nD Cert.InProj.τ).loc Cert.InProj.main_arg8)) (m ((c.tc : Thread Cert.InProj.nD Cert.InProj.τ).loc Cert.InProj.main_arg9)) (m ((c.tc : Thread Cert.InProj.nD Cert.InProj.τ).loc Cert.InProj.main_arg10)) (m ((c.tc : Thread Cert.InProj.nD Cert.InProj.τ).loc Cert.InProj.main_arg11)) (m ((c.tc : Thread Cert.InProj.nD Cert.InProj.τ).loc Cert.InProj.main_arg12)) (m ((c.tc : Thread Cert.InProj.nD Cert.InProj.τ).loc Cert.InProj.main_arg13)) (m ((c.tc : Thread Cert.InProj.nD Cert.InProj.τ).loc Cert.InProj.main_arg14))) = (fun _ => 1#1)

def Pre_InProjIdeal [hPre_rows_in_range : Cert.Pre_rows_in_range.Facts] (m : (ℓ : Loc Cert.InProjIdeal.nD Cert.InProjIdeal.τ Cert.InProjIdeal.sig) → Buf (Elt Ideal) ℓ) : Prop :=
  ∀ c : Dev Cert.InProjIdeal.nD,
    (Cert.Pre_rows_in_range.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9)) (m ((c.tc : Thread Cert.InProjIdeal.nD Cert.InProjIdeal.τ).loc Cert.InProjIdeal.main_arg10)) (m ((c.tc : Thread Cert.InProjIdeal.nD Cert.InProjIdeal.τ).loc Cert.InProjIdeal.main_arg11)) (m ((c.tc : Thread Cert.InProjIdeal.nD Cert.InProjIdeal.τ).loc Cert.InProjIdeal.main_arg12)) (m ((c.tc : Thread Cert.InProjIdeal.nD Cert.InProjIdeal.τ).loc Cert.InProjIdeal.main_arg13)) (m ((c.tc : Thread Cert.InProjIdeal.nD Cert.InProjIdeal.τ).loc Cert.InProjIdeal.main_arg14))) = (fun _ => 1#1)

def Pre_InRefIdeal (m : (ℓ : Loc Cert.InRefIdeal.nD Cert.InRefIdeal.τ Cert.InRefIdeal.sig) → Buf (Elt Ideal) ℓ) : Prop :=
  True

def Pre_InRefIdeal_rows_in_range [hPre_rows_in_range : Cert.Pre_rows_in_range.Facts] (m : (ℓ : Loc Cert.InRefIdeal.nD Cert.InRefIdeal.τ Cert.InRefIdeal.sig) → Buf (Elt Ideal) ℓ) : Prop :=
  ∀ c : Dev Cert.InRefIdeal.nD,
    (Cert.Pre_rows_in_range.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10)) (m ((c.tc : Thread Cert.InRefIdeal.nD Cert.InRefIdeal.τ).loc Cert.InRefIdeal.main_arg11)) (m ((c.tc : Thread Cert.InRefIdeal.nD Cert.InRefIdeal.τ).loc Cert.InRefIdeal.main_arg12)) (m ((c.tc : Thread Cert.InRefIdeal.nD Cert.InRefIdeal.τ).loc Cert.InRefIdeal.main_arg13)) (m ((c.tc : Thread Cert.InRefIdeal.nD Cert.InRefIdeal.τ).loc Cert.InRefIdeal.main_arg14))) = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_InProj [hInProj : Cert.InProj.Facts] [hPre_rows_in_range : Cert.Pre_rows_in_range.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11)
      ∧ r.2.mem ((c.tc : Thread Cert.InProj.nD Cert.InProj.τ).loc Cert.InProj.main_arg12) = m ((c.tc : Thread Cert.InProj.nD Cert.InProj.τ).loc Cert.InProj.main_arg12)
      ∧ r.2.mem ((c.tc : Thread Cert.InProj.nD Cert.InProj.τ).loc Cert.InProj.main_arg13) = m ((c.tc : Thread Cert.InProj.nD Cert.InProj.τ).loc Cert.InProj.main_arg13)
      ∧ r.2.mem ((c.tc : Thread Cert.InProj.nD Cert.InProj.τ).loc Cert.InProj.main_arg14) = m ((c.tc : Thread Cert.InProj.nD Cert.InProj.τ).loc Cert.InProj.main_arg14))
      ∧ r.2.sem = fun _ => 0)

def quiescent_InProjIdeal [hInProjIdeal : Cert.InProjIdeal.Facts] [hPre_rows_in_range : Cert.Pre_rows_in_range.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
      ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
      ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
      ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13)
      ∧ r.2.mem ((c.tc : Thread Cert.InRefIdeal.nD Cert.InRefIdeal.τ).loc Cert.InRefIdeal.main_arg14) = m ((c.tc : Thread Cert.InRefIdeal.nD Cert.InRefIdeal.τ).loc Cert.InRefIdeal.main_arg14))
      ∧ r.2.sem = fun _ => 0)

def quiescent_InRefIdeal_pre_rows_in_range [hInRefIdeal : Cert.InRefIdeal.Facts] [hPre_rows_in_range : Cert.Pre_rows_in_range.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_rows_in_range m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13)
      ∧ r.2.mem ((c.tc : Thread Cert.InRefIdeal.nD Cert.InRefIdeal.τ).loc Cert.InRefIdeal.main_arg14) = m ((c.tc : Thread Cert.InRefIdeal.nD Cert.InRefIdeal.τ).loc Cert.InRefIdeal.main_arg14))
      ∧ r.2.sem = fun _ => 0)

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_InProj_InProjIdeal : Prop :=
  True

def algebraic_InProjIdeal_InRefIdeal [hInProjIdeal : Cert.InProjIdeal.Facts] [hInRefIdeal : Cert.InRefIdeal.Facts] [hPre_rows_in_range : Cert.Pre_rows_in_range.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)
      ∧ m' ((c.tc : Thread Cert.InRefIdeal.nD Cert.InRefIdeal.τ).loc Cert.InRefIdeal.main_arg4) = m ((c.tc : Thread Cert.InProjIdeal.nD Cert.InProjIdeal.τ).loc Cert.InProjIdeal.main_arg4)
      ∧ m' ((c.tc : Thread Cert.InRefIdeal.nD Cert.InRefIdeal.τ).loc Cert.InRefIdeal.main_arg5) = m ((c.tc : Thread Cert.InProjIdeal.nD Cert.InProjIdeal.τ).loc Cert.InProjIdeal.main_arg5)
      ∧ m' ((c.tc : Thread Cert.InRefIdeal.nD Cert.InRefIdeal.τ).loc Cert.InRefIdeal.main_arg6) = m ((c.tc : Thread Cert.InProjIdeal.nD Cert.InProjIdeal.τ).loc Cert.InProjIdeal.main_arg6)
      ∧ m' ((c.tc : Thread Cert.InRefIdeal.nD Cert.InRefIdeal.τ).loc Cert.InRefIdeal.main_arg7) = m ((c.tc : Thread Cert.InProjIdeal.nD Cert.InProjIdeal.τ).loc Cert.InProjIdeal.main_arg7)
      ∧ m' ((c.tc : Thread Cert.InRefIdeal.nD Cert.InRefIdeal.τ).loc Cert.InRefIdeal.main_arg8) = m ((c.tc : Thread Cert.InProjIdeal.nD Cert.InProjIdeal.τ).loc Cert.InProjIdeal.main_arg8)
      ∧ m' ((c.tc : Thread Cert.InRefIdeal.nD Cert.InRefIdeal.τ).loc Cert.InRefIdeal.main_arg9) = m ((c.tc : Thread Cert.InProjIdeal.nD Cert.InProjIdeal.τ).loc Cert.InProjIdeal.main_arg9)
      ∧ m' ((c.tc : Thread Cert.InRefIdeal.nD Cert.InRefIdeal.τ).loc Cert.InRefIdeal.main_arg10) = m ((c.tc : Thread Cert.InProjIdeal.nD Cert.InProjIdeal.τ).loc Cert.InProjIdeal.main_arg10)
      ∧ m' ((c.tc : Thread Cert.InRefIdeal.nD Cert.InRefIdeal.τ).loc Cert.InRefIdeal.main_arg11) = m ((c.tc : Thread Cert.InProjIdeal.nD Cert.InProjIdeal.τ).loc Cert.InProjIdeal.main_arg11)
      ∧ m' ((c.tc : Thread Cert.InRefIdeal.nD Cert.InRefIdeal.τ).loc Cert.InRefIdeal.main_arg12) = m ((c.tc : Thread Cert.InProjIdeal.nD Cert.InProjIdeal.τ).loc Cert.InProjIdeal.main_arg12)
      ∧ m' ((c.tc : Thread Cert.InRefIdeal.nD Cert.InRefIdeal.τ).loc Cert.InRefIdeal.main_arg13) = m ((c.tc : Thread Cert.InProjIdeal.nD Cert.InProjIdeal.τ).loc Cert.InProjIdeal.main_arg13)
      ∧ m' ((c.tc : Thread Cert.InRefIdeal.nD Cert.InRefIdeal.τ).loc Cert.InRefIdeal.main_arg14) = m ((c.tc : Thread Cert.InProjIdeal.nD Cert.InProjIdeal.τ).loc Cert.InProjIdeal.main_arg14)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)) (v2 : (c : Dev Cert.InProjIdeal.nD) → Buf (Elt Ideal) ((c.tc : Thread Cert.InProjIdeal.nD Cert.InProjIdeal.τ).loc Cert.InProjIdeal.main_v6_2)) (v3 : (c : Dev Cert.InProjIdeal.nD) → Buf (Elt Ideal) ((c.tc : Thread Cert.InProjIdeal.nD Cert.InProjIdeal.τ).loc Cert.InProjIdeal.main_v6_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_v6_2) = v2 c
          ∧ r.2.mem ((c.tc : Thread Cert.InProjIdeal.nD Cert.InProjIdeal.τ).loc Cert.InProjIdeal.main_v6_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
          ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
          ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
          ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4_0) = v0 c
          ∧ r.2.mem ((c.tc : Thread Cert.InRefIdeal.nD Cert.InRefIdeal.τ).loc Cert.InRefIdeal.main_v4_1) = v1 c
          ∧ r.2.mem ((c.tc : Thread Cert.InRefIdeal.nD Cert.InRefIdeal.τ).loc Cert.InRefIdeal.main_v4_2) = v2 c
          ∧ r.2.mem ((c.tc : Thread Cert.InRefIdeal.nD Cert.InRefIdeal.τ).loc Cert.InRefIdeal.main_v4_3) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11)
          ∧ r.2.mem ((c.tc : Thread Cert.InRefIdeal.nD Cert.InRefIdeal.τ).loc Cert.InRefIdeal.main_arg12) = m' ((c.tc : Thread Cert.InRefIdeal.nD Cert.InRefIdeal.τ).loc Cert.InRefIdeal.main_arg12)
          ∧ r.2.mem ((c.tc : Thread Cert.InRefIdeal.nD Cert.InRefIdeal.τ).loc Cert.InRefIdeal.main_arg13) = m' ((c.tc : Thread Cert.InRefIdeal.nD Cert.InRefIdeal.τ).loc Cert.InRefIdeal.main_arg13)
          ∧ r.2.mem ((c.tc : Thread Cert.InRefIdeal.nD Cert.InRefIdeal.τ).loc Cert.InRefIdeal.main_arg14) = m' ((c.tc : Thread Cert.InRefIdeal.nD Cert.InRefIdeal.τ).loc Cert.InRefIdeal.main_arg14))

def Claim : Prop :=
  ∃ (hOutProj : Cert.OutProj.Facts) (hOutProjIdeal : Cert.OutProjIdeal.Facts) (hOutRefIdeal : Cert.OutRefIdeal.Facts) (hInProj : Cert.InProj.Facts) (hInProjIdeal : Cert.InProjIdeal.Facts) (hInRefIdeal : Cert.InRefIdeal.Facts) (hPre_rows_in_range : Cert.Pre_rows_in_range.Facts),
    quiescent_OutProj (hOutProj := hOutProj)
    ∧ quiescent_OutProjIdeal (hOutProjIdeal := hOutProjIdeal)
    ∧ quiescent_OutRefIdeal (hOutRefIdeal := hOutRefIdeal)
    ∧ quiescent_InProj (hInProj := hInProj) (hPre_rows_in_range := hPre_rows_in_range)
    ∧ quiescent_InProjIdeal (hInProjIdeal := hInProjIdeal) (hPre_rows_in_range := hPre_rows_in_range)
    ∧ quiescent_InRefIdeal (hInRefIdeal := hInRefIdeal)
    ∧ quiescent_InRefIdeal_pre_rows_in_range (hInRefIdeal := hInRefIdeal) (hPre_rows_in_range := hPre_rows_in_range)
    ∧ preserves_OutProj_OutProjIdeal
    ∧ algebraic_OutProjIdeal_OutRefIdeal (hOutProjIdeal := hOutProjIdeal) (hOutRefIdeal := hOutRefIdeal)
    ∧ preserves_InProj_InProjIdeal
    ∧ algebraic_InProjIdeal_InRefIdeal (hInProjIdeal := hInProjIdeal) (hInRefIdeal := hInRefIdeal) (hPre_rows_in_range := hPre_rows_in_range)
-- ==== Pre_rows_in_range.lean ====
abbrev S40x24x4096 : Shape := ⟨3, ![40, 24, 4096]⟩
abbrev S4096 : Shape := ⟨1, ![4096]⟩
abbrev S4096x4640 : Shape := ⟨2, ![4096, 4640]⟩
abbrev S4640 : Shape := ⟨1, ![4640]⟩
abbrev S32 : Shape := ⟨1, ![32]⟩
abbrev S40x32x64x128 : Shape := ⟨4, ![40, 32, 64, 128]⟩
abbrev S40x32x64 : Shape := ⟨3, ![40, 32, 64]⟩
abbrev S40x24x2048 : Shape := ⟨3, ![40, 24, 2048]⟩
abbrev S40x24x32 : Shape := ⟨3, ![40, 24, 32]⟩
abbrev S40x24x2x128 : Shape := ⟨4, ![40, 24, 2, 128]⟩
abbrev S40x24x2 : Shape := ⟨3, ![40, 24, 2]⟩
abbrev S40x7 : Shape := ⟨2, ![40, 7]⟩
abbrev S40 : Shape := ⟨1, ![40]⟩
abbrev S_ : Shape := ⟨0, ![]⟩

class Facts : Prop where
  bcast_S_S40x7 : S_.BroadcastsInDim S40x7 (![] : Fin 0 → Fin S40x7.rank)

variable [Facts]

def fn {F : FTy → Type} [FloatOps F] (main_arg0 : FVec F S40x24x4096 .bf16) (main_arg1 : FVec F S4096 .f32) (main_arg2 : IVec S4096x4640 8) (main_arg3 : FVec F S4640 .f32) (main_arg4 : FVec F S32 .f32) (main_arg5 : FVec F S32 .f32) (main_arg6 : FVec F S40x32x64x128 .fp8e4m3) (main_arg7 : FVec F S40x32x64 .f32) (main_arg8 : IVec S40x24x2048 8) (main_arg9 : FVec F S40x24x32 .f32) (main_arg10 : IVec S40x24x2x128 8) (main_arg11 : FVec F S40x24x2 .f32) (main_arg12 : FVec F S40x24x32 .f32) (main_arg13 : IVec S40x7 32) (main_arg14 : IVec S40 32) : IVec S40x7 1 :=
  let main_c : IVec S_ 32 := constantI S_ 32 0#32
  let main_v0 : IVec S40x7 32 := broadcastInDim S40x7 ![] bcast_S_S40x7 main_c
  let main_v1 : IVec S40x7 1 := cmpi .sge main_arg13 main_v0
  let main_c_0 : IVec S_ 32 := constantI S_ 32 24#32
  let main_v2 : IVec S40x7 32 := broadcastInDim S40x7 ![] bcast_S_S40x7 main_c_0
  let main_v3 : IVec S40x7 1 := cmpi .slt main_arg13 main_v2
  let main_v4 : IVec S40x7 1 := andi main_v1 main_v3
  main_v4
-- ==== OutProj.lean ====
abbrev S40x24x2048 : Shape := ⟨3, ![40, 24, 2048]⟩
abbrev S40x24 : Shape := ⟨2, ![40, 24]⟩
abbrev S2048x4096 : Shape := ⟨2, ![2048, 4096]⟩
abbrev S4096 : Shape := ⟨1, ![4096]⟩
abbrev S40x24x4096 : Shape := ⟨3, ![40, 24, 4096]⟩
abbrev S960x1 : Shape := ⟨2, ![960, 1]⟩
abbrev S960x128 : Shape := ⟨2, ![960, 128]⟩
abbrev S960x4096 : Shape := ⟨2, ![960, 4096]⟩
abbrev S1x4096 : Shape := ⟨2, ![1, 4096]⟩
abbrev S2048x512 : Shape := ⟨2, ![2048, 512]⟩
abbrev S1x512 : Shape := ⟨2, ![1, 512]⟩
abbrev S960x512 : Shape := ⟨2, ![960, 512]⟩
abbrev S960x2048 : Shape := ⟨2, ![960, 2048]⟩
abbrev S2x24x2048 : Shape := ⟨3, ![2, 24, 2048]⟩
abbrev S48x2048 : Shape := ⟨2, ![48, 2048]⟩
abbrev S240x2048 : Shape := ⟨2, ![240, 2048]⟩
abbrev S240x512 : Shape := ⟨2, ![240, 512]⟩
abbrev S240x128 : Shape := ⟨2, ![240, 128]⟩

abbrev nBuf : Space → Nat
  | .hbm => 10
  | .vmem => 11
  | .smem => 0
  | _ => 0

abbrev bufTy : (tb : Table) → Fin (tcTables nBuf tb) → BufTy
  | .hbm, ⟨0, _⟩ => ⟨S40x24x2048, .i8⟩
  | .hbm, ⟨1, _⟩ => ⟨S40x24, .f32⟩
  | .hbm, ⟨2, _⟩ => ⟨S2048x4096, .i8⟩
  | .hbm, ⟨3, _⟩ => ⟨S4096, .f32⟩
  | .hbm, ⟨4, _⟩ => ⟨S40x24x4096, .bf16⟩
  | .hbm, ⟨5, _⟩ => ⟨S960x1, .f32⟩
  | .hbm, ⟨6, _⟩ => ⟨S960x128, .f32⟩
  | .hbm, ⟨7, _⟩ => ⟨S960x4096, .bf16⟩
  | .hbm, ⟨8, _⟩ => ⟨S1x4096, .f32⟩
  | .hbm, ⟨9, _⟩ => ⟨S960x4096, .bf16⟩
  | .local _ .vmem, ⟨0, _⟩ => ⟨S40x24x2048, .i8⟩
  | .local _ .vmem, ⟨1, _⟩ => ⟨S960x128, .f32⟩
  | .local _ .vmem, ⟨2, _⟩ => ⟨S2048x512, .i8⟩
  | .local _ .vmem, ⟨3, _⟩ => ⟨S2048x512, .i8⟩
  | .local _ .vmem, ⟨4, _⟩ => ⟨S1x512, .f32⟩
  | .local _ .vmem, ⟨5, _⟩ => ⟨S1x512, .f32⟩
  | .local _ .vmem, ⟨6, _⟩ => ⟨S960x512, .bf16⟩
  | .local _ .vmem, ⟨7, _⟩ => ⟨S960x512, .bf16⟩
  | .local _ .vmem, ⟨8, _⟩ => ⟨S960x512, .bf16⟩
  | .local _ .vmem, ⟨9, _⟩ => ⟨S960x512, .bf16⟩
  | .local _ .vmem, ⟨10, _⟩ => ⟨S960x2048, .bf16⟩
  | _, _ => ⟨S40x24x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_48 : BitVec 32 := 0#32
  let c20_i32 : BitVec 32 := 20#32
  let v75 : BitVec 32 := Scalar.addi c0_i32_48 c20_i32
  let c1_i32 : BitVec 32 := 1#32
  ⟨c0_i32_48, v75, c1_i32⟩
def k0_off1 (k0_t1 : Fin k0_t1_loop.trips) : Fin 3 → Nat :=
  let c2_i32 : BitVec 32 := 2#32
  let c0_i32_48 : BitVec 32 := 0#32
  let c1_i32 : BitVec 32 := 1#32
  let arg8 : BitVec 32 := Scf.iv c0_i32_48 c1_i32 k0_t1
  let v76 : BitVec 32 := Scalar.muli c2_i32 arg8
  let v77 : Index := Scalar.indexCast v76
  let c0_50 : Index := 0#32
  let c0_51 : Index := 0#32
  ![v77.toNat, 0, 0]
def k0_mult1 (k0_t1 : Fin k0_t1_loop.trips) : BitVec 32 :=
  let c0_i32_48 : BitVec 32 := 0#32
  let c1_i32 : BitVec 32 := 1#32
  let arg8 : BitVec 32 := Scf.iv c0_i32_48 c1_i32 k0_t1
  let c2_i32_52 : BitVec 32 := 2#32
  let v82 : BitVec 32 := Scalar.muli arg8 c2_i32_52
  let c24_i32 : BitVec 32 := 24#32
  let v83 : BitVec 32 := Scalar.muli v82 c24_i32
  v83
def k0_off2 (k0_t1 : Fin k0_t1_loop.trips) : Fin 2 → Nat :=
  let c0_i32_48 : BitVec 32 := 0#32
  let c1_i32 : BitVec 32 := 1#32
  let arg8 : BitVec 32 := Scf.iv c0_i32_48 c1_i32 k0_t1
  let c2_i32_52 : BitVec 32 := 2#32
  let v82 : BitVec 32 := Scalar.muli arg8 c2_i32_52
  let c24_i32 : BitVec 32 := 24#32
  let v83 : BitVec 32 := Scalar.muli v82 c24_i32
  let v84 : BitVec 32 := v83
  let v85 : Index := Scalar.indexCast v84
  let c0_53 : Index := 0#32
  ![v85.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x24x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S960x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S960x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S960x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S40x24x2048 : Shape := ⟨3, ![40, 24, 2048]⟩
abbrev S40x24 : Shape := ⟨2, ![40, 24]⟩
abbrev S2048x4096 : Shape := ⟨2, ![2048, 4096]⟩
abbrev S4096 : Shape := ⟨1, ![4096]⟩
abbrev S40x24x4096 : Shape := ⟨3, ![40, 24, 4096]⟩
abbrev S960x2048 : Shape := ⟨2, ![960, 2048]⟩
abbrev S960x1 : Shape := ⟨2, ![960, 1]⟩
abbrev S1x4096 : Shape := ⟨2, ![1, 4096]⟩
abbrev S960x4096 : Shape := ⟨2, ![960, 4096]⟩

abbrev nBuf : Space → Nat
  | .hbm => 10
  | .vmem => 6
  | .smem => 0
  | _ => 0

abbrev bufTy : (tb : Table) → Fin (tcTables nBuf tb) → BufTy
  | .hbm, ⟨0, _⟩ => ⟨S40x24x2048, .i8⟩
  | .hbm, ⟨1, _⟩ => ⟨S40x24, .f32⟩
  | .hbm, ⟨2, _⟩ => ⟨S2048x4096, .i8⟩
  | .hbm, ⟨3, _⟩ => ⟨S4096, .f32⟩
  | .hbm, ⟨4, _⟩ => ⟨S40x24x4096, .bf16⟩
  | .hbm, ⟨5, _⟩ => ⟨S960x2048, .i8⟩
  | .hbm, ⟨6, _⟩ => ⟨S960x1, .f32⟩
  | .hbm, ⟨7, _⟩ => ⟨S1x4096, .f32⟩
  | .hbm, ⟨8, _⟩ => ⟨S960x4096, .bf16⟩
  | .hbm, ⟨9, _⟩ => ⟨S960x4096, .bf16⟩
  | .local _ .vmem, ⟨0, _⟩ => ⟨S960x2048, .i8⟩
  | .local _ .vmem, ⟨1, _⟩ => ⟨S960x1, .f32⟩
  | .local _ .vmem, ⟨2, _⟩ => ⟨S2048x4096, .i8⟩
  | .local _ .vmem, ⟨3, _⟩ => ⟨S1x4096, .f32⟩
  | .local _ .vmem, ⟨4, _⟩ => ⟨S960x4096, .bf16⟩
  | .local _ .vmem, ⟨5, _⟩ => ⟨S960x4096, .bf16⟩
  | _, _ => ⟨S40x24x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S960x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S960x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S960x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S960x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== InProj.lean ====
abbrev S40x24x4096 : Shape := ⟨3, ![40, 24, 4096]⟩
abbrev S4096 : Shape := ⟨1, ![4096]⟩
abbrev S4096x4640 : Shape := ⟨2, ![4096, 4640]⟩
abbrev S4640 : Shape := ⟨1, ![4640]⟩
abbrev S32 : Shape := ⟨1, ![32]⟩
abbrev S40x32x64x128 : Shape := ⟨4, ![40, 32, 64, 128]⟩
abbrev S40x32x64 : Shape := ⟨3, ![40, 32, 64]⟩
abbrev S40x24x2048 : Shape := ⟨3, ![40, 24, 2048]⟩
abbrev S40x24x32 : Shape := ⟨3, ![40, 24, 32]⟩
abbrev S40x24x2x128 : Shape := ⟨4, ![40, 24, 2, 128]⟩
abbrev S40x24x2 : Shape := ⟨3, ![40, 24, 2]⟩
abbrev S40x7 : Shape := ⟨2, ![40, 7]⟩
abbrev S40 : Shape := ⟨1, ![40]⟩
abbrev S960x4096 : Shape := ⟨2, ![960, 4096]⟩
abbrev S40x2048x128 : Shape := ⟨3, ![40, 2048, 128]⟩
abbrev S1x4096 : Shape := ⟨2, ![1, 4096]⟩
abbrev S1x4640 : Shape := ⟨2, ![1, 4640]⟩
abbrev S1x32 : Shape := ⟨2, ![1, 32]⟩
abbrev S960x4608 : Shape := ⟨2, ![960, 4608]⟩
abbrev S960x2560 : Shape := ⟨2, ![960, 2560]⟩
abbrev S960x32 : Shape := ⟨2, ![960, 32]⟩
abbrev S40x24 : Shape := ⟨2, ![40, 24]⟩
abbrev S40x16x128 : Shape := ⟨3, ![40, 16, 128]⟩
abbrev S4096x512 : Shape := ⟨2, ![4096, 512]⟩
abbrev S1x512 : Shape := ⟨2, ![1, 512]⟩
abbrev S4x2048x128 : Shape := ⟨3, ![4, 2048, 128]⟩
abbrev S4x32x64 : Shape := ⟨3, ![4, 32, 64]⟩
abbrev S960x512 : Shape := ⟨2, ![960, 512]⟩
abbrev S4x24x4096 : Shape := ⟨3, ![4, 24, 4096]⟩
abbrev S4x16x128 : Shape := ⟨3, ![4, 16, 128]⟩
abbrev S960x128 : Shape := ⟨2, ![960, 128]⟩
abbrev S320x2048 : Shape := ⟨2, ![320, 2048]⟩
abbrev S2x320x128 : Shape := ⟨3, ![2, 320, 128]⟩
abbrev S32x2048 : Shape := ⟨2, ![32, 2048]⟩
abbrev S8x192 : Shape := ⟨2, ![8, 192]⟩
abbrev S1 : Shape := ⟨1, ![1]⟩
abbrev S1x1 : Shape := ⟨2, ![1, 1]⟩
abbrev S64x192 : Shape := ⟨2, ![64, 192]⟩
abbrev S8x24x32 : Shape := ⟨3, ![8, 24, 32]⟩
abbrev S192x32 : Shape := ⟨2, ![192, 32]⟩
abbrev S64x32 : Shape := ⟨2, ![64, 32]⟩
abbrev S8x24x2 : Shape := ⟨3, ![8, 24, 2]⟩
abbrev S192x2 : Shape := ⟨2, ![192, 2]⟩
abbrev S64x2 : Shape := ⟨2, ![64, 2]⟩
abbrev S64x1 : Shape := ⟨2, ![64, 1]⟩
abbrev S64x2048 : Shape := ⟨2, ![64, 2048]⟩
abbrev S8x24x2048 : Shape := ⟨3, ![8, 24, 2048]⟩
abbrev S192x2048 : Shape := ⟨2, ![192, 2048]⟩
abbrev S1x1x2x128 : Shape := ⟨4, ![1, 1, 2, 128]⟩
abbrev S2x128 : Shape := ⟨2, ![2, 128]⟩
abbrev S1x128 : Shape := ⟨2, ![1, 128]⟩
abbrev S1x1x128 : Shape := ⟨3, ![1, 1, 128]⟩
abbrev S16x4096 : Shape := ⟨2, ![16, 4096]⟩
abbrev S16 : Shape := ⟨1, ![16]⟩
abbrev S16x1 : Shape := ⟨2, ![16, 1]⟩
abbrev S16x128 : Shape := ⟨2, ![16, 128]⟩
abbrev S240x4096 : Shape := ⟨2, ![240, 4096]⟩
abbrev S240x512 : Shape := ⟨2, ![240, 512]⟩
abbrev S240x128 : Shape := ⟨2, ![240, 128]⟩
abbrev S48x4096 : Shape := ⟨2, ![48, 4096]⟩
abbrev S2x24x4096 : Shape := ⟨3, ![2, 24, 4096]⟩
abbrev S24x128 : Shape := ⟨2, ![24, 128]⟩
abbrev S128 : Shape := ⟨1, ![128]⟩
abbrev S1x24 : Shape := ⟨2, ![1, 24]⟩
abbrev S8x2048 : Shape := ⟨2, ![8, 2048]⟩
abbrev S1x2048 : Shape := ⟨2, ![1, 2048]⟩
abbrev S1x8x128 : Shape := ⟨3, ![1, 8, 128]⟩
abbrev S8x128 : Shape := ⟨2, ![8, 128]⟩
abbrev S32x128 : Shape := ⟨2, ![32, 128]⟩
abbrev S128x32 : Shape := ⟨2, ![128, 32]⟩
abbrev S32x1024 : Shape := ⟨2, ![32, 1024]⟩
abbrev S128x1024 : Shape := ⟨2, ![128, 1024]⟩
abbrev S1x1x64 : Shape := ⟨3, ![1, 1, 64]⟩
abbrev S1x64 : Shape := ⟨2, ![1, 64]⟩
abbrev S1x128x128 : Shape := ⟨3, ![1, 128, 128]⟩
abbrev S128x128 : Shape := ⟨2, ![128, 128]⟩
abbrev S4096x128 : Shape := ⟨2, ![4096, 128]⟩
abbrev S240x32 : Shape := ⟨2, ![240, 32]⟩

abbrev nBuf : Space → Nat
  | .hbm => 29
  | .vmem => 35
  | .smem => 2
  | _ => 0

abbrev bufTy : (tb : Table) → Fin (tcTables nBuf tb) → BufTy
  | .hbm, ⟨0, _⟩ => ⟨S40x24x4096, .bf16⟩
  | .hbm, ⟨1, _⟩ => ⟨S4096, .f32⟩
  | .hbm, ⟨2, _⟩ => ⟨S4096x4640, .i8⟩
  | .hbm, ⟨3, _⟩ => ⟨S4640, .f32⟩
  | .hbm, ⟨4, _⟩ => ⟨S32, .f32⟩
  | .hbm, ⟨5, _⟩ => ⟨S32, .f32⟩
  | .hbm, ⟨6, _⟩ => ⟨S40x32x64x128, .fp8e4m3⟩
  | .hbm, ⟨7, _⟩ => ⟨S40x32x64, .f32⟩
  | .hbm, ⟨8, _⟩ => ⟨S40x24x2048, .i8⟩
  | .hbm, ⟨9, _⟩ => ⟨S40x24x32, .f32⟩
  | .hbm, ⟨10, _⟩ => ⟨S40x24x2x128, .i8⟩
  | .hbm, ⟨11, _⟩ => ⟨S40x24x2, .f32⟩
  | .hbm, ⟨12, _⟩ => ⟨S40x24x32, .f32⟩
  | .hbm, ⟨13, _⟩ => ⟨S40x7, .i32⟩
  | .hbm, ⟨14, _⟩ => ⟨S40, .i32⟩
  | .hbm, ⟨15, _⟩ => ⟨S960x4096, .bf16⟩
  | .hbm, ⟨16, _⟩ => ⟨S40x2048x128, .fp8e4m3⟩
  | .hbm, ⟨17, _⟩ => ⟨S1x4096, .f32⟩
  | .hbm, ⟨18, _⟩ => ⟨S1x4640, .f32⟩
  | .hbm, ⟨19, _⟩ => ⟨S1x32, .f32⟩
  | .hbm, ⟨20, _⟩ => ⟨S1x32, .f32⟩
  | .hbm, ⟨21, _⟩ => ⟨S960x4608, .f32⟩
  | .hbm, ⟨22, _⟩ => ⟨S960x2560, .bf16⟩
  | .hbm, ⟨23, _⟩ => ⟨S960x32, .f32⟩
  | .hbm, ⟨24, _⟩ => ⟨S40x24x4096, .i8⟩
  | .hbm, ⟨25, _⟩ => ⟨S40x24, .f32⟩
  | .hbm, ⟨26, _⟩ => ⟨S40x2048x128, .fp8e4m3⟩
  | .hbm, ⟨27, _⟩ => ⟨S40x32x64, .f32⟩
  | .hbm, ⟨28, _⟩ => ⟨S40x16x128, .f32⟩
  | .local _ .vmem, ⟨0, _⟩ => ⟨S960x4096, .bf16⟩
  | .local _ .vmem, ⟨1, _⟩ => ⟨S1x4096, .f32⟩
  | .local _ .vmem, ⟨2, _⟩ => ⟨S4096x512, .i8⟩
  | .local _ .vmem, ⟨3, _⟩ => ⟨S4096x512, .i8⟩
  | .local _ .vmem, ⟨4, _⟩ => ⟨S1x512, .f32⟩
  | .local _ .vmem, ⟨5, _⟩ => ⟨S1x512, .f32⟩
  | .local _ .vmem, ⟨6, _⟩ => ⟨S1x32, .f32⟩
  | .local _ .vmem, ⟨7, _⟩ => ⟨S1x32, .f32⟩
  | .local _ .vmem, ⟨8, _⟩ => ⟨S4x2048x128, .fp8e4m3⟩
  | .local _ .vmem, ⟨9, _⟩ => ⟨S4x2048x128, .fp8e4m3⟩
  | .local _ .vmem, ⟨10, _⟩ => ⟨S4x32x64, .f32⟩
  | .local _ .vmem, ⟨11, _⟩ => ⟨S4x32x64, .f32⟩
  | .local _ .vmem, ⟨12, _⟩ => ⟨S40x24x2048, .i8⟩
  | .local _ .vmem, ⟨13, _⟩ => ⟨S40x24x32, .f32⟩
  | .local _ .vmem, ⟨14, _⟩ => ⟨S40x24x2x128, .i8⟩
  | .local _ .vmem, ⟨15, _⟩ => ⟨S40x24x2, .f32⟩
  | .local _ .vmem, ⟨16, _⟩ => ⟨S40x24x32, .f32⟩
  | .local _ .vmem, ⟨17, _⟩ => ⟨S960x512, .f32⟩
  | .local _ .vmem, ⟨18, _⟩ => ⟨S960x512, .f32⟩
  | .local _ .vmem, ⟨19, _⟩ => ⟨S960x512, .bf16⟩
  | .local _ .vmem, ⟨20, _⟩ => ⟨S960x512, .bf16⟩
  | .local _ .vmem, ⟨21, _⟩ => ⟨S960x32, .f32⟩
  | .local _ .vmem, ⟨22, _⟩ => ⟨S4x24x4096, .i8⟩
  | .local _ .vmem, ⟨23, _⟩ => ⟨S4x24x4096, .i8⟩
  | .local _ .vmem, ⟨24, _⟩ => ⟨S40x24, .f32⟩
  | .local _ .vmem, ⟨25, _⟩ => ⟨S4x2048x128, .fp8e4m3⟩
  | .local _ .vmem, ⟨26, _⟩ => ⟨S4x2048x128, .fp8e4m3⟩
  | .local _ .vmem, ⟨27, _⟩ => ⟨S4x32x64, .f32⟩
  | .local _ .vmem, ⟨28, _⟩ => ⟨S4x32x64, .f32⟩
  | .local _ .vmem, ⟨29, _⟩ => ⟨S4x16x128, .f32⟩
  | .local _ .vmem, ⟨30, _⟩ => ⟨S4x16x128, .f32⟩
  | .local _ .vmem, ⟨31, _⟩ => ⟨S960x4096, .bf16⟩
  | .local _ .vmem, ⟨32, _⟩ => ⟨S960x128, .f32⟩
  | .local _ .vmem, ⟨33, _⟩ => ⟨S320x2048, .f32⟩
  | .local _ .vmem, ⟨34, _⟩ => ⟨S2x320x128, .f32⟩
  | .local _ .smem, ⟨0, _⟩ => ⟨S40x7, .i32⟩
  | .local _ .smem, ⟨1, _⟩ => ⟨S40, .i32⟩
  | _, _ => ⟨S40x24x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev main_v6_6 : Ref sig .tc := ⟨.hbm, 27, rfl⟩
abbrev main_v6_7 : Ref sig .tc := ⟨.hbm, 28, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c5_i32 : BitVec 32 := 5#32
  let v44 : BitVec 32 := Scalar.addi c0_i32_10 c5_i32
  let c1_i32_11 : BitVec 32 := 1#32
  ⟨c0_i32_10, v44, c1_i32_11⟩
def k0_off1 (k0_t1 : Fin k0_t1_loop.trips) (c0_i32_19 : BitVec 32) : Fin 1 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v51 : Index := Scalar.indexCast v50
  ![v51.toNat]
def k0_off2 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v57 : Index := Scalar.indexCast v50
  let c0_22 : Index := 0#32
  ![v57.toNat, 0]
def k0_off3 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v66 : Index := Scalar.indexCast v50
  let c1 : Index := 1#32
  ![v66.toNat, 1]
def k0_off4 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v75 : Index := Scalar.indexCast v50
  let c2 : Index := 2#32
  ![v75.toNat, 2]
def k0_off5 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v84 : Index := Scalar.indexCast v50
  let c3 : Index := 3#32
  ![v84.toNat, 3]
def k0_off6 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v93 : Index := Scalar.indexCast v50
  let c4 : Index := 4#32
  ![v93.toNat, 4]
def k0_off7 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v102 : Index := Scalar.indexCast v50
  let c5 : Index := 5#32
  ![v102.toNat, 5]
def k0_off8 (k0_t1 : Fin k0_t1_loop.trips) (c0_i32_19 : BitVec 32) : Fin 2 → Nat :=
  let c0_i32_10 : BitVec 32 := 0#32
  let c1_i32_11 : BitVec 32 := 1#32
  let arg28 : BitVec 32 := Scf.iv c0_i32_10 c1_i32_11 k0_t1
  let c8_i32 : BitVec 32 := 8#32
  let v49 : BitVec 32 := Scalar.muli arg28 c8_i32
  let v50 : BitVec 32 := Scalar.addi v49 c0_i32_19
  let v111 : Index := Scalar.indexCast v50
  let c6 : Index := 6#32
  ![v111.toNat, 6]
def k0_off9 (k0_t1 : Fin k0_t1_loop.trips) : Fin 3 → Nat :=
  let c0_i32_10 : BitVec 32 := 0#32
  let c1_i32_11 : BitVec 32 := 1#32
  let arg28 : BitVec 32 := Scf.iv c0_i32_10 c1_i32_11 k0_t1
  let c8_i32_319 : BitVec 32 := 8#32
  let v627 : BitVec 32 := Scalar.muli arg28 c8_i32_319
  let v628 : Index := Scalar.indexCast v627
  let c0_320 : Index := 0#32
  let c0_321 : Index := 0#32
  ![v628.toNat, 0, 0]
def k0_off10 (k0_t1 : Fin k0_t1_loop.trips) : Fin 3 → Nat :=
  let c0_i32_10 : BitVec 32 := 0#32
  let c1_i32_11 : BitVec 32 := 1#32
  let arg28 : BitVec 32 := Scf.iv c0_i32_10 c1_i32_11 k0_t1
  let c8_i32_331 : BitVec 32 := 8#32
  let v663 : BitVec 32 := Scalar.muli arg28 c8_i32_331
  let v664 : Index := Scalar.indexCast v663
  let c0_332 : Index := 0#32
  let c0_333 : Index := 0#32
  ![v664.toNat, 0, 0]
def k0_off11 (k0_t1 : Fin k0_t1_loop.trips) : Fin 3 → Nat :=
  let c0_i32_10 : BitVec 32 := 0#32
  let c1_i32_11 : BitVec 32 := 1#32
  let arg28 : BitVec 32 := Scf.iv c0_i32_10 c1_i32_11 k0_t1
  let c8_i32_358 : BitVec 32 := 8#32
  let v758 : BitVec 32 := Scalar.muli arg28 c8_i32_358
  let v759 : Index := Scalar.indexCast v758
  let c0_359 : Index := 0#32
  let c0_360 : Index := 0#32
  ![v759.toNat, 0, 0]
def k0_mult1 (k0_t1 : Fin k0_t1_loop.trips) : BitVec 32 :=
  let c0_i32_10 : BitVec 32 := 0#32
  let c1_i32_11 : BitVec 32 := 1#32
  let arg28 : BitVec 32 := Scf.iv c0_i32_10 c1_i32_11 k0_t1
  let c8_i32_369 : BitVec 32 := 8#32
  let v786 : BitVec 32 := Scalar.muli arg28 c8_i32_369
  let c8_i32_370 : BitVec 32 := 8#32
  let v787 : BitVec 32 := Scalar.muli v786 c8_i32_370
  v787
def k0_off12 (k0_t1 : Fin k0_t1_loop.trips) : Fin 2 → Nat :=
  let c0_i32_10 : BitVec 32 := 0#32
  let c1_i32_11 : BitVec 32 := 1#32
  let arg28 : BitVec 32 := Scf.iv c0_i32_10 c1_i32_11 k0_t1
  let c8_i32_369 : BitVec 32 := 8#32
  let v786 : BitVec 32 := Scalar.muli arg28 c8_i32_369
  let c8_i32_370 : BitVec 32 := 8#32
  let v787 : BitVec 32 := Scalar.muli v786 c8_i32_370
  let v788 : BitVec 32 := v787
  let v789 : Index := Scalar.indexCast v788
  let c0_371 : Index := 0#32
  ![v789.toNat, 0]
@[reducible] def k0_t2_loop : Scf.Loop 32 :=
  let c0_i32_13 : BitVec 32 := 0#32
  let c40_i32 : BitVec 32 := 40#32
  let v45 : BitVec 32 := Scalar.addi c0_i32_13 c40_i32
  let c1_i32_14 : BitVec 32 := 1#32
  ⟨c0_i32_13, v45, c1_i32_14⟩
def k0_off13 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v47 : Index := Scalar.indexCast arg28
  let c0_19 : Index := 0#32
  ![v47.toNat, 0]
def k0_off14 (k0_t2 : Fin k0_t2_loop.trips) (v48 : BitVec 32) : Fin 4 → Nat :=
  let c0_i32_13 : BitVec 32 := 0#32
  let c1_i32_14 : BitVec 32 := 1#32
  let arg28 : BitVec 32 := Scf.iv c0_i32_13 c1_i32_14 k0_t2
  let v49 : Index := Scalar.indexCast arg28
  let v50 : Index := Scalar.indexCast v48
  let c0_20 : Index := 0#32
  let c0_21 : Index := 0#32
  ![v49.toNat, v50.toNat, 0, 0]

def k0_chk1 (i : grid0.Coords) (k0_t2 : Fin k0_t2_loop.trips) (v48 : BitVec 32) : Prop :=
  (∀ (k0_h1 : k0_cond1 i = 1#1), ∀ a, (k0_off14 k0_t2 v48) a + S1x1x2x128.size a ≤ S40x24x2x128.size a)
theorem k0_off14_inb : ∀ (i : grid0.Coords) (k0_t2 : Fin k0_t2_loop.trips) (v48 : BitVec 32) (k0_hw1 : k0_chk1 i k0_t2 v48), ∀ (k0_h1 : k0_cond1 i = 1#1), ∀ a, (k0_off14 k0_t2 v48) a + S1x1x2x128.size a ≤ S40x24x2x128.size a := fun i k0_t2 v48 k0_hw1 k0_h1 => k0_hw1 k0_h1

def k0_off15 (k0_t2 : Fin k0_t2_loop.trips) : Fin 3 → Nat :=
  let c0_23 : Index := 0#32
  let c0_i32_13 : BitVec 32 := 0#32
  let c1_i32_14 : BitVec 32 := 1#32
  let arg28 : BitVec 32 := Scf.iv c0_i32_13 c1_i32_14 k0_t2
  let c8_i32 : BitVec 32 := 8#32
  let v55 : BitVec 32 := Scalar.muli arg28 c8_i32
  let c0_i32_22 : BitVec 32 := 0#32
  let v56 : BitVec 32 := Scalar.addi v55 c0_i32_22
  let v57 : Index := Scalar.indexCast v56
  let c0_24 : Index := 0#32
  ![0, v57.toNat, 0]
def k0_off16 (k0_t2 : Fin k0_t2_loop.trips) : Fin 3 → Nat :=
  let c1 : Index := 1#32
  let c0_i32_13 : BitVec 32 := 0#32
  let c1_i32_14 : BitVec 32 := 1#32
  let arg28 : BitVec 32 := Scf.iv c0_i32_13 c1_i32_14 k0_t2
  let c8_i32_25 : BitVec 32 := 8#32
  let v62 : BitVec 32 := Scalar.muli arg28 c8_i32_25
  let c0_i32_26 : BitVec 32 := 0#32
  let v63 : BitVec 32 := Scalar.addi v62 c0_i32_26
  let v64 : Index := Scalar.indexCast v63
  let c0_27 : Index := 0#32
  ![1, v64.toNat, 0]
def k0_off17 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v68 : Index := Scalar.indexCast arg28
  let c1_28 : Index := 1#32
  ![v68.toNat, 1]
def k0_off18 (k0_t2 : Fin k0_t2_loop.trips) (v69 : BitVec 32) : Fin 4 → Nat :=
  let c0_i32_13 : BitVec 32 := 0#32
  let c1_i32_14 : BitVec 32 := 1#32
  let arg28 : BitVec 32 := Scf.iv c0_i32_13 c1_i32_14 k0_t2
  let v70 : Index := Scalar.indexCast arg28
  let v71 : Index := Scalar.indexCast v69
  let c0_29 : Index := 0#32
  let c0_30 : Index := 0#32
  ![v70.toNat, v71.toNat, 0, 0]

def k0_chk2 (i : grid0.Coords) (k0_t2 : Fin k0_t2_loop.trips) (v69 : BitVec 32) : Prop :=
  (∀ (k0_h1 : k0_cond1 i = 1#1), ∀ a, (k0_off18 k0_t2 v69) a + S1x1x2x128.size a ≤ S40x24x2x128.size a)
theorem k0_off18_inb : ∀ (i : grid0.Coords) (k0_t2 : Fin k0_t2_loop.trips) (v69 : BitVec 32) (k0_hw2 : k0_chk2 i k0_t2 v69), ∀ (k0_h1 : k0_cond1 i = 1#1), ∀ a, (k0_off18 k0_t2 v69) a + S1x1x2x128.size a ≤ S40x24x2x128.size a := fun i k0_t2 v69 k0_hw2 k0_h1 => k0_hw2 k0_h1

def k0_off19 (k0_t2 : Fin k0_t2_loop.trips) : Fin 3 → Nat :=
  let c0_33 : Index := 0#32
  let c0_i32_13 : BitVec 32 := 0#32
  let c1_i32_14 : BitVec 32 := 1#32
  let arg28 : BitVec 32 := Scf.iv c0_i32_13 c1_i32_14 k0_t2
  let c8_i32_31 : BitVec 32 := 8#32
  let v76 : BitVec 32 := Scalar.muli arg28 c8_i32_31
  let c1_i32_32 : BitVec 32 := 1#32
  let v77 : BitVec 32 := Scalar.addi v76 c1_i32_32
  let v78 : Index := Scalar.indexCast v77
  let c0_34 : Index := 0#32
  ![0, v78.toNat, 0]
def k0_off20 (k0_t2 : Fin k0_t2_loop.trips) : Fin 3 → Nat :=
  let c1_37 : Index := 1#32
  let c0_i32_13 : BitVec 32 := 0#32
  let c1_i32_14 : BitVec 32 := 1#32
  let arg28 : BitVec 32 := Scf.iv c0_i32_13 c1_i32_14 k0_t2
  let c8_i32_35 : BitVec 32 := 8#32
  let v83 : BitVec 32 := Scalar.muli arg28 c8_i32_35
  let c1_i32_36 : BitVec 32 := 1#32
  let v84 : BitVec 32 := Scalar.addi v83 c1_i32_36
  let v85 : Index := Scalar.indexCast v84
  let c0_38 : Index := 0#32
  ![1, v85.toNat, 0]
def k0_off21 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v89 : Index := Scalar.indexCast arg28
  let c2 : Index := 2#32
  ![v89.toNat, 2]
def k0_off22 (k0_t2 : Fin k0_t2_loop.trips) (v90 : BitVec 32) : Fin 4 → Nat :=
  let c0_i32_13 : BitVec 32 := 0#32
  let c1_i32_14 : BitVec 32 := 1#32
  let arg28 : BitVec 32 := Scf.iv c0_i32_13 c1_i32_14 k0_t2
  let v91 : Index := Scalar.indexCast arg28
  let v92 : Index := Scalar.indexCast v90
  let c0_39 : Index := 0#32
  let c0_40 : Index := 0#32
  ![v91.toNat, v92.toNat, 0, 0]

def k0_chk3 (i : grid0.Coords) (k0_t2 : Fin k0_t2_loop.trips) (v90 : BitVec 32) : Prop :=
  (∀ (k0_h1 : k0_cond1 i = 1#1), ∀ a, (k0_off22 k0_t2 v90) a + S1x1x2x128.size a ≤ S40x24x2x128.size a)
theorem k0_off22_inb : ∀ (i : grid0.Coords) (k0_t2 : Fin k0_t2_loop.trips) (v90 : BitVec 32) (k0_hw3 : k0_chk3 i k0_t2 v90), ∀ (k0_h1 : k0_cond1 i = 1#1), ∀ a, (k0_off22 k0_t2 v90) a + S1x1x2x128.size a ≤ S40x24x2x128.size a := fun i k0_t2 v90 k0_hw3 k0_h1 => k0_hw3 k0_h1

def k0_off23 (k0_t2 : Fin k0_t2_loop.trips) : Fin 3 → Nat :=
  let c0_42 : Index := 0#32
  let c0_i32_13 : BitVec 32 := 0#32
  let c1_i32_14 : BitVec 32 := 1#32
  let arg28 : BitVec 32 := Scf.iv c0_i32_13 c1_i32_14 k0_t2
  let c8_i32_41 : BitVec 32 := 8#32
  let v97 : BitVec 32 := Scalar.muli arg28 c8_i32_41
  let c2_i32 : BitVec 32 := 2#32
  let v98 : BitVec 32 := Scalar.addi v97 c2_i32
  let v99 : Index := Scalar.indexCast v98
  let c0_43 : Index := 0#32
  ![0, v99.toNat, 0]
def k0_off24 (k0_t2 : Fin k0_t2_loop.trips) : Fin 3 → Nat :=
  let c1_46 : Index := 1#32
  let c0_i32_13 : BitVec 32 := 0#32
  let c1_i32_14 : BitVec 32 := 1#32
  let arg28 : BitVec 32 := Scf.iv c0_i32_13 c1_i32_14 k0_t2
  let c8_i32_44 : BitVec 32 := 8#32
  let v104 : BitVec 32 := Scalar.muli arg28 c8_i32_44
  let c2_i32_45 : BitVec 32 := 2#32
  let v105 : BitVec 32 := Scalar.addi v104 c2_i32_45
  let v106 : Index := Scalar.indexCast v105
  let c0_47 : Index := 0#32
  ![1, v106.toNat, 0]
def k0_off25 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v110 : Index := Scalar.indexCast arg28
  let c3 : Index := 3#32
  ![v110.toNat, 3]
def k0_off26 (k0_t2 : Fin k0_t2_loop.trips) (v111 : BitVec 32) : Fin 4 → Nat :=
  let c0_i32_13 : BitVec 32 := 0#32
  let c1_i32_14 : BitVec 32 := 1#32
  let arg28 : BitVec 32 := Scf.iv c0_i32_13 c1_i32_14 k0_t2
  let v112 : Index := Scalar.indexCast arg28
  let v113 : Index := Scalar.indexCast v111
  let c0_48 : Index := 0#32
  let c0_49 : Index := 0#32
  ![v112.toNat, v113.toNat, 0, 0]

def k0_chk4 (i : grid0.Coords) (k0_t2 : Fin k0_t2_loop.trips) (v111 : BitVec 32) : Prop :=
  (∀ (k0_h1 : k0_cond1 i = 1#1), ∀ a, (k0_off26 k0_t2 v111) a + S1x1x2x128.size a ≤ S40x24x2x128.size a)
theorem k0_off26_inb : ∀ (i : grid0.Coords) (k0_t2 : Fin k0_t2_loop.trips) (v111 : BitVec 32) (k0_hw4 : k0_chk4 i k0_t2 v111), ∀ (k0_h1 : k0_cond1 i = 1#1), ∀ a, (k0_off26 k0_t2 v111) a + S1x1x2x128.size a ≤ S40x24x2x128.size a := fun i k0_t2 v111 k0_hw4 k0_h1 => k0_hw4 k0_h1

def k0_off27 (k0_t2 : Fin k0_t2_loop.trips) : Fin 3 → Nat :=
  let c0_51 : Index := 0#32
  let c0_i32_13 : BitVec 32 := 0#32
  let c1_i32_14 : BitVec 32 := 1#32
  let arg28 : BitVec 32 := Scf.iv c0_i32_13 c1_i32_14 k0_t2
  let c8_i32_50 : BitVec 32 := 8#32
  let v118 : BitVec 32 := Scalar.muli arg28 c8_i32_50
  let c3_i32 : BitVec 32 := 3#32
  let v119 : BitVec 32 := Scalar.addi v118 c3_i32
  let v120 : Index := Scalar.indexCast v119
  let c0_52 : Index := 0#32
  ![0, v120.toNat, 0]
def k0_off28 (k0_t2 : Fin k0_t2_loop.trips) : Fin 3 → Nat :=
  let c1_55 : Index := 1#32
  let c0_i32_13 : BitVec 32 := 0#32
  let c1_i32_14 : BitVec 32 := 1#32
  let arg28 : BitVec 32 := Scf.iv c0_i32_13 c1_i32_14 k0_t2
  let c8_i32_53 : BitVec 32 := 8#32
  let v125 : BitVec 32 := Scalar.muli arg28 c8_i32_53
  let c3_i32_54 : BitVec 32 := 3#32
  let v126 : BitVec 32 := Scalar.addi v125 c3_i32_54
  let v127 : Index := Scalar.indexCast v126
  let c0_56 : Index := 0#32
  ![1, v127.toNat, 0]
def k0_off29 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v131 : Index := Scalar.indexCast arg28
  let c4 : Index := 4#32
  ![v131.toNat, 4]
def k0_off30 (k0_t2 : Fin k0_t2_loop.trips) (v132 : BitVec 32) : Fin 4 → Nat :=
  let c0_i32_13 : BitVec 32 := 0#32
  let c1_i32_14 : BitVec 32 := 1#32
  let arg28 : BitVec 32 := Scf.iv c0_i32_13 c1_i32_14 k0_t2
  let v133 : Index := Scalar.indexCast arg28
  let v134 : Index := Scalar.indexCast v132
  let c0_57 : Index := 0#32
  let c0_58 : Index := 0#32
  ![v133.toNat, v134.toNat, 0, 0]

def k0_chk5 (i : grid0.Coords) (k0_t2 : Fin k0_t2_loop.trips) (v132 : BitVec 32) : Prop :=
  (∀ (k0_h1 : k0_cond1 i = 1#1), ∀ a, (k0_off30 k0_t2 v132) a + S1x1x2x128.size a ≤ S40x24x2x128.size a)
theorem k0_off30_inb : ∀ (i : grid0.Coords) (k0_t2 : Fin k0_t2_loop.trips) (v132 : BitVec 32) (k0_hw5 : k0_chk5 i k0_t2 v132), ∀ (k0_h1 : k0_cond1 i = 1#1), ∀ a, (k0_off30 k0_t2 v132) a + S1x1x2x128.size a ≤ S40x24x2x128.size a := fun i k0_t2 v132 k0_hw5 k0_h1 => k0_hw5 k0_h1

def k0_off31 (k0_t2 : Fin k0_t2_loop.trips) : Fin 3 → Nat :=
  let c0_60 : Index := 0#32
  let c0_i32_13 : BitVec 32 := 0#32
  let c1_i32_14 : BitVec 32 := 1#32
  let arg28 : BitVec 32 := Scf.iv c0_i32_13 c1_i32_14 k0_t2
  let c8_i32_59 : BitVec 32 := 8#32
  let v139 : BitVec 32 := Scalar.muli arg28 c8_i32_59
  let c4_i32 : BitVec 32 := 4#32
  let v140 : BitVec 32 := Scalar.addi v139 c4_i32
  let v141 : Index := Scalar.indexCast v140
  let c0_61 : Index := 0#32
  ![0, v141.toNat, 0]
def k0_off32 (k0_t2 : Fin k0_t2_loop.trips) : Fin 3 → Nat :=
  let c1_64 : Index := 1#32
  let c0_i32_13 : BitVec 32 := 0#32
  let c1_i32_14 : BitVec 32 := 1#32
  let arg28 : BitVec 32 := Scf.iv c0_i32_13 c1_i32_14 k0_t2
  let c8_i32_62 : BitVec 32 := 8#32
  let v146 : BitVec 32 := Scalar.muli arg28 c8_i32_62
  let c4_i32_63 : BitVec 32 := 4#32
  let v147 : BitVec 32 := Scalar.addi v146 c4_i32_63
  let v148 : Index := Scalar.indexCast v147
  let c0_65 : Index := 0#32
  ![1, v148.toNat, 0]
def k0_off33 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v152 : Index := Scalar.indexCast arg28
  let c5 : Index := 5#32
  ![v152.toNat, 5]
def k0_off34 (k0_t2 : Fin k0_t2_loop.trips) (v153 : BitVec 32) : Fin 4 → Nat :=
  let c0_i32_13 : BitVec 32 := 0#32
  let c1_i32_14 : BitVec 32 := 1#32
  let arg28 : BitVec 32 := Scf.iv c0_i32_13 c1_i32_14 k0_t2
  let v154 : Index := Scalar.indexCast arg28
  let v155 : Index := Scalar.indexCast v153
  let c0_66 : Index := 0#32
  let c0_67 : Index := 0#32
  ![v154.toNat, v155.toNat, 0, 0]

def k0_chk6 (i : grid0.Coords) (k0_t2 : Fin k0_t2_loop.trips) (v153 : BitVec 32) : Prop :=
  (∀ (k0_h1 : k0_cond1 i = 1#1), ∀ a, (k0_off34 k0_t2 v153) a + S1x1x2x128.size a ≤ S40x24x2x128.size a)
theorem k0_off34_inb : ∀ (i : grid0.Coords) (k0_t2 : Fin k0_t2_loop.trips) (v153 : BitVec 32) (k0_hw6 : k0_chk6 i k0_t2 v153), ∀ (k0_h1 : k0_cond1 i = 1#1), ∀ a, (k0_off34 k0_t2 v153) a + S1x1x2x128.size a ≤ S40x24x2x128.size a := fun i k0_t2 v153 k0_hw6 k0_h1 => k0_hw6 k0_h1

def k0_off35 (k0_t2 : Fin k0_t2_loop.trips) : Fin 3 → Nat :=
  let c0_70 : Index := 0#32
  let c0_i32_13 : BitVec 32 := 0#32
  let c1_i32_14 : BitVec 32 := 1#32
  let arg28 : BitVec 32 := Scf.iv c0_i32_13 c1_i32_14 k0_t2
  let c8_i32_68 : BitVec 32 := 8#32
  let v160 : BitVec 32 := Scalar.muli arg28 c8_i32_68
  let c5_i32_69 : BitVec 32 := 5#32
  let v161 : BitVec 32 := Scalar.addi v160 c5_i32_69
  let v162 : Index := Scalar.indexCast v161
  let c0_71 : Index := 0#32
  ![0, v162.toNat, 0]
def k0_off36 (k0_t2 : Fin k0_t2_loop.trips) : Fin 3 → Nat :=
  let c1_74 : Index := 1#32
  let c0_i32_13 : BitVec 32 := 0#32
  let c1_i32_14 : BitVec 32 := 1#32
  let arg28 : BitVec 32 := Scf.iv c0_i32_13 c1_i32_14 k0_t2
  let c8_i32_72 : BitVec 32 := 8#32
  let v167 : BitVec 32 := Scalar.muli arg28 c8_i32_72
  let c5_i32_73 : BitVec 32 := 5#32
  let v168 : BitVec 32 := Scalar.addi v167 c5_i32_73
  let v169 : Index := Scalar.indexCast v168
  let c0_75 : Index := 0#32
  ![1, v169.toNat, 0]
def k0_off37 (k0_t2 : Fin k0_t2_loop.trips) : Fin 2 → Nat :=
  let c0_i32_13 : BitVec 32 := 0#32
  let c1_i32_14 : BitVec 32 := 1#32
  let arg28 : BitVec 32 := Scf.iv c0_i32_13 c1_i32_14 k0_t2
  let v173 : Index := Scalar.indexCast arg28
  let c6 : Index := 6#32
  ![v173.toNat, 6]
def k0_off38 (k0_t2 : Fin k0_t2_loop.trips) (v174 : BitVec 32) : Fin 4 → Nat :=
  let c0_i32_13 : BitVec 32 := 0#32
  let c1_i32_14 : BitVec 32 := 1#32
  let arg28 : BitVec 32 := Scf.iv c0_i32_13 c1_i32_14 k0_t2
  let v175 : Index := Scalar.indexCast arg28
  let v176 : Index := Scalar.indexCast v174
  let c0_76 : Index := 0#32
  let c0_77 : Index := 0#32
  ![v175.toNat, v176.toNat, 0, 0]

def k0_chk7 (i : grid0.Coords) (k0_t2 : Fin k0_t2_loop.trips) (v174 : BitVec 32) : Prop :=
  (∀ (k0_h1 : k0_cond1 i = 1#1), ∀ a, (k0_off38 k0_t2 v174) a + S1x1x2x128.size a ≤ S40x24x2x128.size a)
theorem k0_off38_inb : ∀ (i : grid0.Coords) (k0_t2 : Fin k0_t2_loop.trips) (v174 : BitVec 32) (k0_hw7 : k0_chk7 i k0_t2 v174), ∀ (k0_h1 : k0_cond1 i = 1#1), ∀ a, (k0_off38 k0_t2 v174) a + S1x1x2x128.size a ≤ S40x24x2x128.size a := fun i k0_t2 v174 k0_hw7 k0_h1 => k0_hw7 k0_h1

def k0_off39 (k0_t2 : Fin k0_t2_loop.trips) (c6_i32 : BitVec 32) : Fin 3 → Nat :=
  let c0_79 : Index := 0#32
  let c0_i32_13 : BitVec 32 := 0#32
  let c1_i32_14 : BitVec 32 := 1#32
  let arg28 : BitVec 32 := Scf.iv c0_i32_13 c1_i32_14 k0_t2
  let c8_i32_78 : BitVec 32 := 8#32
  let v181 : BitVec 32 := Scalar.muli arg28 c8_i32_78
  let v182 : BitVec 32 := Scalar.addi v181 c6_i32
  let v183 : Index := Scalar.indexCast v182
  let c0_80 : Index := 0#32
  ![0, v183.toNat, 0]
def k0_off40 (k0_t2 : Fin k0_t2_loop.trips) (c6_i32_82 : BitVec 32) : Fin 3 → Nat :=
  let c1_83 : Index := 1#32
  let c0_i32_13 : BitVec 32 := 0#32
  let c1_i32_14 : BitVec 32 := 1#32
  let arg28 : BitVec 32 := Scf.iv c0_i32_13 c1_i32_14 k0_t2
  let c8_i32_81 : BitVec 32 := 8#32
  let v188 : BitVec 32 := Scalar.muli arg28 c8_i32_81
  let v189 : BitVec 32 := Scalar.addi v188 c6_i32_82
  let v190 : Index := Scalar.indexCast v189
  let c0_84 : Index := 0#32
  ![1, v190.toNat, 0]
@[reducible] def k0_t3_loop : Scf.Loop 32 :=
  let c0_i32_16 : BitVec 32 := 0#32
  let c60_i32 : BitVec 32 := 60#32
  let v46 : BitVec 32 := Scalar.addi c0_i32_16 c60_i32
  let c1_i32_17 : BitVec 32 := 1#32
  ⟨c0_i32_16, v46, c1_i32_17⟩
def k0_off41 (k0_t3 : Fin k0_t3_loop.trips) : Fin 2 → Nat :=
  let c0_i32_16 : BitVec 32 := 0#32
  let c1_i32_17 : BitVec 32 := 1#32
  let arg28 : BitVec 32 := Scf.iv c0_i32_16 c1_i32_17 k0_t3
  let c16_i32 : BitVec 32 := 16#32
  let v47 : BitVec 32 := Scalar.muli arg28 c16_i32
  let v48 : Index := Scalar.indexCast v47
  let c0_19 : Index := 0#32
  ![v48.toNat, 0]
def k0_mult2 (k0_t3 : Fin k0_t3_loop.trips) : BitVec 32 :=
  let c0_i32_16 : BitVec 32 := 0#32
  let c1_i32_17 : BitVec 32 := 1#32
  let arg28 : BitVec 32 := Scf.iv c0_i32_16 c1_i32_17 k0_t3
  let c16_i32 : BitVec 32 := 16#32
  let v47 : BitVec 32 := Scalar.muli arg28 c16_i32
  v47
def k0_off42 (k0_t3 : Fin k0_t3_loop.trips) : Fin 2 → Nat :=
  let c0_i32_16 : BitVec 32 := 0#32
  let c1_i32_17 : BitVec 32 := 1#32
  let arg28 : BitVec 32 := Scf.iv c0_i32_16 c1_i32_17 k0_t3
  let c16_i32 : BitVec 32 := 16#32
  let v47 : BitVec 32 := Scalar.muli arg28 c16_i32
  let v85 : BitVec 32 := v47
  let v86 : Index := Scalar.indexCast v85
  let c0_32 : Index := 0#32
  ![v86.toNat, 0]
def k0_off43 (k0_t3 : Fin k0_t3_loop.trips) : Fin 2 → Nat :=
  let c0_i32_16 : BitVec 32 := 0#32
  let c1_i32_17 : BitVec 32 := 1#32
  let arg28 : BitVec 32 := Scf.iv c0_i32_16 c1_i32_17 k0_t3
  let c16_i32 : BitVec 32 := 16#32
  let v47 : BitVec 32 := Scalar.muli arg28 c16_i32
  let v92 : Index := Scalar.indexCast v47
  let c0_33 : Index := 0#32
  ![v92.toNat, 0]
def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

def k0_mult3 (i : grid0.Coords) : BitVec 32 :=
  let arg0 : BitVec 32 := BitVec.ofNat 32 (i 0).val
  let c4_i32 : BitVec 32 := 4#32
  let v23 : BitVec 32 := Scalar.muli arg0 c4_i32
  let c0_i32_15 : BitVec 32 := 0#32
  let v24 : BitVec 32 := Scalar.addi v23 c0_i32_15
  let c24_i32 : BitVec 32 := 24#32
  let v25 : BitVec 32 := Scalar.muli v24 c24_i32
  v25
def k0_mult4 (i : grid0.Coords) : BitVec 32 :=
  let arg0 : BitVec 32 := BitVec.ofNat 32 (i 0).val
  let c4_i32_16 : BitVec 32 := 4#32
  let v27 : BitVec 32 := Scalar.muli arg0 c4_i32_16
  let c0_i32_17 : BitVec 32 := 0#32
  let v28 : BitVec 32 := Scalar.addi v27 c0_i32_17
  let c24_i32_18 : BitVec 32 := 24#32
  let v29 : BitVec 32 := Scalar.muli v28 c24_i32_18
  v29
def k0_off44 (i : grid0.Coords) (c0_i32_17 : BitVec 32) : Fin 2 → Nat :=
  let arg0 : BitVec 32 := BitVec.ofNat 32 (i 0).val
  let c4_i32_16 : BitVec 32 := 4#32
  let v27 : BitVec 32 := Scalar.muli arg0 c4_i32_16
  let v28 : BitVec 32 := Scalar.addi v27 c0_i32_17
  let c24_i32_18 : BitVec 32 := 24#32
  let v29 : BitVec 32 := Scalar.muli v28 c24_i32_18
  let v30 : BitVec 32 := v29
  let v31 : Index := Scalar.indexCast v30
  let c0_19 : Index := 0#32
  ![v31.toNat, 0]
def k0_off45 (i : grid0.Coords) (c0_i32_15 : BitVec 32) : Fin 2 → Nat :=
  let arg0 : BitVec 32 := BitVec.ofNat 32 (i 0).val
  let c4_i32 : BitVec 32 := 4#32
  let v23 : BitVec 32 := Scalar.muli arg0 c4_i32
  let v24 : BitVec 32 := Scalar.addi v23 c0_i32_15
  let c24_i32 : BitVec 32 := 24#32
  let v25 : BitVec 32 := Scalar.muli v24 c24_i32
  let v26 : BitVec 32 := v25
  let v37 : Index := Scalar.indexCast v26
  let c0_23 : Index := 0#32
  ![v37.toNat, 0]
def k0_off46 (i : grid0.Coords) (c0_i32_27 : BitVec 32) : Fin 2 → Nat :=
  let arg0 : BitVec 32 := BitVec.ofNat 32 (i 0).val
  let c4_i32_26 : BitVec 32 := 4#32
  let v47 : BitVec 32 := Scalar.muli arg0 c4_i32_26
  let v48 : BitVec 32 := Scalar.addi v47 c0_i32_27
  let v49 : Index := Scalar.indexCast v48
  let c0_28 : Index := 0#32
  ![v49.toNat, 0]
def k0_mult5 (i : grid0.Coords) : BitVec 32 :=
  let arg0 : BitVec 32 := BitVec.ofNat 32 (i 0).val
  let c4_i32_29 : BitVec 32 := 4#32
  let v51 : BitVec 32 := Scalar.muli arg0 c4_i32_29
  let c0_i32_30 : BitVec 32 := 0#32
  let v52 : BitVec 32 := Scalar.addi v51 c0_i32_30
  let c8_i32 : BitVec 32 := 8#32
  let v53 : BitVec 32 := Scalar.muli v52 c8_i32
  v53
def k0_off47 (i : grid0.Coords) (c0_i32_30 : BitVec 32) : Fin 2 → Nat :=
  let arg0 : BitVec 32 := BitVec.ofNat 32 (i 0).val
  let c4_i32_29 : BitVec 32 := 4#32
  let v51 : BitVec 32 := Scalar.muli arg0 c4_i32_29
  let v52 : BitVec 32 := Scalar.addi v51 c0_i32_30
  let c8_i32 : BitVec 32 := 8#32
  let v53 : BitVec 32 := Scalar.muli v52 c8_i32
  let v54 : BitVec 32 := v53
  let v55 : Index := Scalar.indexCast v54
  let c0_31 : Index := 0#32
  ![v55.toNat, 0]
def k0_off48 (i : grid0.Coords) (c0_i32_30 : BitVec 32) : Fin 3 → Nat :=
  let c0_34 : Index := 0#32
  let arg0 : BitVec 32 := BitVec.ofNat 32 (i 0).val
  let c4_i32_29 : BitVec 32 := 4#32
  let v51 : BitVec 32 := Scalar.muli arg0 c4_i32_29
  let v52 : BitVec 32 := Scalar.addi v51 c0_i32_30
  let c8_i32 : BitVec 32 := 8#32
  let v53 : BitVec 32 := Scalar.muli v52 c8_i32
  let v54 : BitVec 32 := v53
  let v72 : Index := Scalar.indexCast v54
  let c0_35 : Index := 0#32
  ![0, v72.toNat, 0]
def k0_off49 (i : grid0.Coords) (c0_i32_30 : BitVec 32) : Fin 3 → Nat :=
  let c1_232 : Index := 1#32
  let arg0 : BitVec 32 := BitVec.ofNat 32 (i 0).val
  let c4_i32_29 : BitVec 32 := 4#32
  let v51 : BitVec 32 := Scalar.muli arg0 c4_i32_29
  let v52 : BitVec 32 := Scalar.addi v51 c0_i32_30
  let c8_i32 : BitVec 32 := 8#32
  let v53 : BitVec 32 := Scalar.muli v52 c8_i32
  let v54 : BitVec 32 := v53
  let v449 : Index := Scalar.indexCast v54
  let c0_233 : Index := 0#32
  ![1, v449.toNat, 0]
def k0_mult6 (i : grid0.Coords) : BitVec 32 :=
  let arg0 : BitVec 32 := BitVec.ofNat 32 (i 0).val
  let c4_i32_440 : BitVec 32 := 4#32
  let v840 : BitVec 32 := Scalar.muli arg0 c4_i32_440
  let c1_i32 : BitVec 32 := 1#32
  let v841 : BitVec 32 := Scalar.addi v840 c1_i32
  let c24_i32_441 : BitVec 32 := 24#32
  let v842 : BitVec 32 := Scalar.muli v841 c24_i32_441
  v842
def k0_mult7 (i : grid0.Coords) : BitVec 32 :=
  let arg0 : BitVec 32 := BitVec.ofNat 32 (i 0).val
  let c4_i32_448 : BitVec 32 := 4#32
  let v858 : BitVec 32 := Scalar.muli arg0 c4_i32_448
  let c1_i32_449 : BitVec 32 := 1#32
  let v859 : BitVec 32 := Scalar.addi v858 c1_i32_449
  let c8_i32_450 : BitVec 32 := 8#32
  let v860 : BitVec 32 := Scalar.muli v859 c8_i32_450
  v860
def k0_mult8 (i : grid0.Coords) : BitVec 32 :=
  let arg0 : BitVec 32 := BitVec.ofNat 32 (i 0).val
  let c4_i32_907 : BitVec 32 := 4#32
  let v1647 : BitVec 32 := Scalar.muli arg0 c4_i32_907
  let c2_i32 : BitVec 32 := 2#32
  let v1648 : BitVec 32 := Scalar.addi v1647 c2_i32
  let c24_i32_908 : BitVec 32 := 24#32
  let v1649 : BitVec 32 := Scalar.muli v1648 c24_i32_908
  v1649
def k0_mult9 (i : grid0.Coords) : BitVec 32 :=
  let arg0 : BitVec 32 := BitVec.ofNat 32 (i 0).val
  let c4_i32_909 : BitVec 32 := 4#32
  let v1651 : BitVec 32 := Scalar.muli arg0 c4_i32_909
  let c2_i32_910 : BitVec 32 := 2#32
  let v1652 : BitVec 32 := Scalar.addi v1651 c2_i32_910
  let c24_i32_911 : BitVec 32 := 24#32
  let v1653 : BitVec 32 := Scalar.muli v1652 c24_i32_911
  v1653
def k0_mult10 (i : grid0.Coords) : BitVec 32 :=
  let arg0 : BitVec 32 := BitVec.ofNat 32 (i 0).val
  let c4_i32_922 : BitVec 32 := 4#32
  let v1675 : BitVec 32 := Scalar.muli arg0 c4_i32_922
  let c2_i32_923 : BitVec 32 := 2#32
  let v1676 : BitVec 32 := Scalar.addi v1675 c2_i32_923
  let c8_i32_924 : BitVec 32 := 8#32
  let v1677 : BitVec 32 := Scalar.muli v1676 c8_i32_924
  v1677
def k0_mult11 (i : grid0.Coords) : BitVec 32 :=
  let arg0 : BitVec 32 := BitVec.ofNat 32 (i 0).val
  let c4_i32_1381 : BitVec 32 := 4#32
  let v2464 : BitVec 32 := Scalar.muli arg0 c4_i32_1381
  let c3_i32 : BitVec 32 := 3#32
  let v2465 : BitVec 32 := Scalar.addi v2464 c3_i32
  let c24_i32_1382 : BitVec 32 := 24#32
  let v2466 : BitVec 32 := Scalar.muli v2465 c24_i32_1382
  v2466
def k0_mult12 (i : grid0.Coords) : BitVec 32 :=
  let arg0 : BitVec 32 := BitVec.ofNat 32 (i 0).val
  let c4_i32_1389 : BitVec 32 := 4#32
  let v2482 : BitVec 32 := Scalar.muli arg0 c4_i32_1389
  let c3_i32_1390 : BitVec 32 := 3#32
  let v2483 : BitVec 32 := Scalar.addi v2482 c3_i32_1390
  let c8_i32_1391 : BitVec 32 := 8#32
  let v2484 : BitVec 32 := Scalar.muli v2483 c8_i32_1391
  v2484
def k0_cond3 (i : grid0.Coords) : BitVec 1 :=
  let arg0 : BitVec 32 := BitVec.ofNat 32 (i 0).val
  let c9_i32_2 : BitVec 32 := 9#32
  let v6 : BitVec 1 := Scalar.cmpi .eq arg0 c9_i32_2
  let v7 : BitVec 32 := Scalar.extui v6
  let c0_i32_3 : BitVec 32 := 0#32
  let v8 : BitVec 1 := Scalar.cmpi .ne v7 c0_i32_3
  v8

def k0_mult13 (i : grid0.Coords) : BitVec 32 :=
  let arg0 : BitVec 32 := BitVec.ofNat 32 (i 0).val
  let c4_i32 : BitVec 32 := 4#32
  let v33 : BitVec 32 := Scalar.muli arg0 c4_i32
  let c0_i32_17 : BitVec 32 := 0#32
  let v34 : BitVec 32 := Scalar.addi v33 c0_i32_17
  let c24_i32 : BitVec 32 := 24#32
  let v35 : BitVec 32 := Scalar.muli v34 c24_i32
  v35
def k0_mult14 (i : grid0.Coords) : BitVec 32 :=
  let arg0 : BitVec 32 := BitVec.ofNat 32 (i 0).val
  let c4_i32_18 : BitVec 32 := 4#32
  let v37 : BitVec 32 := Scalar.muli arg0 c4_i32_18
  let c0_i32_19 : BitVec 32 := 0#32
  let v38 : BitVec 32 := Scalar.addi v37 c0_i32_19
  let c24_i32_20 : BitVec 32 := 24#32
  let v39 : BitVec 32 := Scalar.muli v38 c24_i32_20
  v39
def k0_off50 (i : grid0.Coords) (c0_i32_19 : BitVec 32) : Fin 2 → Nat :=
  let arg0 : BitVec 32 := BitVec.ofNat 32 (i 0).val
  let c4_i32_18 : BitVec 32 := 4#32
  let v37 : BitVec 32 := Scalar.muli arg0 c4_i32_18
  let v38 : BitVec 32 := Scalar.addi v37 c0_i32_19
  let c24_i32_20 : BitVec 32 := 24#32
  let v39 : BitVec 32 := Scalar.muli v38 c24_i32_20
  let v40 : BitVec 32 := v39
  let v41 : Index := Scalar.indexCast v40
  let c0_21 : Index := 0#32
  ![v41.toNat, 0]
def k0_off51 (i : grid0.Coords) (c0_i32_17 : BitVec 32) : Fin 2 → Nat :=
  let arg0 : BitVec 32 := BitVec.ofNat 32 (i 0).val
  let c4_i32 : BitVec 32 := 4#32
  let v33 : BitVec 32 := Scalar.muli arg0 c4_i32
  let v34 : BitVec 32 := Scalar.addi v33 c0_i32_17
  let c24_i32 : BitVec 32 := 24#32
  let v35 : BitVec 32 := Scalar.muli v34 c24_i32
  let v36 : BitVec 32 := v35
  let v47 : Index := Scalar.indexCast v36
  let c0_25 : Index := 0#32
  ![v47.toNat, 0]
def k0_off52 (i : grid0.Coords) (c0_i32_29 : BitVec 32) : Fin 2 → Nat :=
  let arg0 : BitVec 32 := BitVec.ofNat 32 (i 0).val
  let c4_i32_28 : BitVec 32 := 4#32
  let v57 : BitVec 32 := Scalar.muli arg0 c4_i32_28
  let v58 : BitVec 32 := Scalar.addi v57 c0_i32_29
  let v59 : Index := Scalar.indexCast v58
  let c0_30 : Index := 0#32
  ![v59.toNat, 0]
def k0_mult15 (i : grid0.Coords) : BitVec 32 :=
  let arg0 : BitVec 32 := BitVec.ofNat 32 (i 0).val
  let c4_i32_31 : BitVec 32 := 4#32
  let v61 : BitVec 32 := Scalar.muli arg0 c4_i32_31
  let c0_i32_32 : BitVec 32 := 0#32
  let v62 : BitVec 32 := Scalar.addi v61 c0_i32_32
  let c8_i32 : BitVec 32 := 8#32
  let v63 : BitVec 32 := Scalar.muli v62 c8_i32
  v63
def k0_off53 (i : grid0.Coords) (c0_i32_32 : BitVec 32) : Fin 2 → Nat :=
  let arg0 : BitVec 32 := BitVec.ofNat 32 (i 0).val
  let c4_i32_31 : BitVec 32 := 4#32
  let v61 : BitVec 32 := Scalar.muli arg0 c4_i32_31
  let v62 : BitVec 32 := Scalar.addi v61 c0_i32_32
  let c8_i32 : BitVec 32 := 8#32
  let v63 : BitVec 32 := Scalar.muli v62 c8_i32
  let v64 : BitVec 32 := v63
  let v65 : Index := Scalar.indexCast v64
  let c0_33 : Index := 0#32
  ![v65.toNat, 0]
def k0_off54 (i : grid0.Coords) (c0_i32_32 : BitVec 32) : Fin 3 → Nat :=
  let c0_36 : Index := 0#32
  let arg0 : BitVec 32 := BitVec.ofNat 32 (i 0).val
  let c4_i32_31 : BitVec 32 := 4#32
  let v61 : BitVec 32 := Scalar.muli arg0 c4_i32_31
  let v62 : BitVec 32 := Scalar.addi v61 c0_i32_32
  let c8_i32 : BitVec 32 := 8#32
  let v63 : BitVec 32 := Scalar.muli v62 c8_i32
  let v64 : BitVec 32 := v63
  let v82 : Index := Scalar.indexCast v64
  let c0_37 : Index := 0#32
  ![0, v82.toNat, 0]
def k0_off55 (i : grid0.Coords) (c0_i32_32 : BitVec 32) : Fin 3 → Nat :=
  let c1_234 : Index := 1#32
  let arg0 : BitVec 32 := BitVec.ofNat 32 (i 0).val
  let c4_i32_31 : BitVec 32 := 4#32
  let v61 : BitVec 32 := Scalar.muli arg0 c4_i32_31
  let v62 : BitVec 32 := Scalar.addi v61 c0_i32_32
  let c8_i32 : BitVec 32 := 8#32
  let v63 : BitVec 32 := Scalar.muli v62 c8_i32
  let v64 : BitVec 32 := v63
  let v459 : Index := Scalar.indexCast v64
  let c0_235 : Index := 0#32
  ![1, v459.toNat, 0]
def k0_mult16 (i : grid0.Coords) : BitVec 32 :=
  let arg0 : BitVec 32 := BitVec.ofNat 32 (i 0).val
  let c4_i32_444 : BitVec 32 := 4#32
  let v860 : BitVec 32 := Scalar.muli arg0 c4_i32_444
  let c1_i32 : BitVec 32 := 1#32
  let v861 : BitVec 32 := Scalar.addi v860 c1_i32
  let c24_i32_445 : BitVec 32 := 24#32
  let v862 : BitVec 32 := Scalar.muli v861 c24_i32_445
  v862
def k0_mult17 (i : grid0.Coords) : BitVec 32 :=
  let arg0 : BitVec 32 := BitVec.ofNat 32 (i 0).val
  let c4_i32_452 : BitVec 32 := 4#32
  let v878 : BitVec 32 := Scalar.muli arg0 c4_i32_452
  let c1_i32_453 : BitVec 32 := 1#32
  let v879 : BitVec 32 := Scalar.addi v878 c1_i32_453
  let c8_i32_454 : BitVec 32 := 8#32
  let v880 : BitVec 32 := Scalar.muli v879 c8_i32_454
  v880
def k0_mult18 (i : grid0.Coords) : BitVec 32 :=
  let arg0 : BitVec 32 := BitVec.ofNat 32 (i 0).val
  let c4_i32_913 : BitVec 32 := 4#32
  let v1677 : BitVec 32 := Scalar.muli arg0 c4_i32_913
  let c2_i32 : BitVec 32 := 2#32
  let v1678 : BitVec 32 := Scalar.addi v1677 c2_i32
  let c24_i32_914 : BitVec 32 := 24#32
  let v1679 : BitVec 32 := Scalar.muli v1678 c24_i32_914
  v1679
def k0_mult19 (i : grid0.Coords) : BitVec 32 :=
  let arg0 : BitVec 32 := BitVec.ofNat 32 (i 0).val
  let c4_i32_915 : BitVec 32 := 4#32
  let v1681 : BitVec 32 := Scalar.muli arg0 c4_i32_915
  let c2_i32_916 : BitVec 32 := 2#32
  let v1682 : BitVec 32 := Scalar.addi v1681 c2_i32_916
  let c24_i32_917 : BitVec 32 := 24#32
  let v1683 : BitVec 32 := Scalar.muli v1682 c24_i32_917
  v1683
def k0_mult20 (i : grid0.Coords) : BitVec 32 :=
  let arg0 : BitVec 32 := BitVec.ofNat 32 (i 0).val
  let c4_i32_928 : BitVec 32 := 4#32
  let v1705 : BitVec 32 := Scalar.muli arg0 c4_i32_928
  let c2_i32_929 : BitVec 32 := 2#32
  let v1706 : BitVec 32 := Scalar.addi v1705 c2_i32_929
  let c8_i32_930 : BitVec 32 := 8#32
  let v1707 : BitVec 32 := Scalar.muli v1706 c8_i32_930
  v1707
def k0_mult21 (i : grid0.Coords) : BitVec 32 :=
  let arg0 : BitVec 32 := BitVec.ofNat 32 (i 0).val
  let c4_i32_1389 : BitVec 32 := 4#32
  let v2504 : BitVec 32 := Scalar.muli arg0 c4_i32_1389
  let c3_i32 : BitVec 32 := 3#32
  let v2505 : BitVec 32 := Scalar.addi v2504 c3_i32
  let c24_i32_1390 : BitVec 32 := 24#32
  let v2506 : BitVec 32 := Scalar.muli v2505 c24_i32_1390
  v2506
def k0_mult22 (i : grid0.Coords) : BitVec 32 :=
  let arg0 : BitVec 32 := BitVec.ofNat 32 (i 0).val
  let c4_i32_1397 : BitVec 32 := 4#32
  let v2522 : BitVec 32 := Scalar.muli arg0 c4_i32_1397
  let c3_i32_1398 : BitVec 32 := 3#32
  let v2523 : BitVec 32 := Scalar.addi v2522 c3_i32_1398
  let c8_i32_1399 : BitVec 32 := 8#32
  let v2524 : BitVec 32 := Scalar.muli v2523 c8_i32_1399
  v2524
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c4_i32_0 : BitVec 32 := 4#32
  let v1 : BitVec 32 := Scalar.maxsi c0_i32 v0
  let v2 : BitVec 32 := Scalar.minsi c4_i32_0 v1
  let c0_i32_1 : BitVec 32 := 0#32
  let c0_i32_2 : BitVec 32 := 0#32
  ![c0_i32_1.toNat, v2.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S40x7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S40 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S960x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x32x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x24x2048 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x24x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x24x2x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40x24x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40x24x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S960x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S960x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S960x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4x24x4096 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S40x24 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S4x2048x128 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x32x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x16x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InRefIdeal.lean ====
abbrev S40x24x4096 : Shape := ⟨3, ![40, 24, 4096]⟩
abbrev S4096 : Shape := ⟨1, ![4096]⟩
abbrev S4096x4640 : Shape := ⟨2, ![4096, 4640]⟩
abbrev S4640 : Shape := ⟨1, ![4640]⟩
abbrev S32 : Shape := ⟨1, ![32]⟩
abbrev S40x32x64x128 : Shape := ⟨4, ![40, 32, 64, 128]⟩
abbrev S40x32x64 : Shape := ⟨3, ![40, 32, 64]⟩
abbrev S40x24x2048 : Shape := ⟨3, ![40, 24, 2048]⟩
abbrev S40x24x32 : Shape := ⟨3, ![40, 24, 32]⟩
abbrev S40x24x2x128 : Shape := ⟨4, ![40, 24, 2, 128]⟩
abbrev S40x24x2 : Shape := ⟨3, ![40, 24, 2]⟩
abbrev S40x7 : Shape := ⟨2, ![40, 7]⟩
abbrev S40 : Shape := ⟨1, ![40]⟩
abbrev S960x4096 : Shape := ⟨2, ![960, 4096]⟩
abbrev S1x4096 : Shape := ⟨2, ![1, 4096]⟩
abbrev S1x4640 : Shape := ⟨2, ![1, 4640]⟩
abbrev S1x32 : Shape := ⟨2, ![1, 32]⟩
abbrev S960x4608 : Shape := ⟨2, ![960, 4608]⟩
abbrev S960x2560 : Shape := ⟨2, ![960, 2560]⟩
abbrev S960x32 : Shape := ⟨2, ![960, 32]⟩
abbrev S960 : Shape := ⟨1, ![960]⟩
abbrev S960x1 : Shape := ⟨2, ![960, 1]⟩
abbrev S960x4640 : Shape := ⟨2, ![960, 4640]⟩

abbrev nBuf : Space → Nat
  | .hbm => 23
  | .vmem => 9
  | .smem => 0
  | _ => 0

abbrev bufTy : (tb : Table) → Fin (tcTables nBuf tb) → BufTy
  | .hbm, ⟨0, _⟩ => ⟨S40x24x4096, .bf16⟩
  | .hbm, ⟨1, _⟩ => ⟨S4096, .f32⟩
  | .hbm, ⟨2, _⟩ => ⟨S4096x4640, .i8⟩
  | .hbm, ⟨3, _⟩ => ⟨S4640, .f32⟩
  | .hbm, ⟨4, _⟩ => ⟨S32, .f32⟩
  | .hbm, ⟨5, _⟩ => ⟨S32, .f32⟩
  | .hbm, ⟨6, _⟩ => ⟨S40x32x64x128, .fp8e4m3⟩
  | .hbm, ⟨7, _⟩ => ⟨S40x32x64, .f32⟩
  | .hbm, ⟨8, _⟩ => ⟨S40x24x2048, .i8⟩
  | .hbm, ⟨9, _⟩ => ⟨S40x24x32, .f32⟩
  | .hbm, ⟨10, _⟩ => ⟨S40x24x2x128, .i8⟩
  | .hbm, ⟨11, _⟩ => ⟨S40x24x2, .f32⟩
  | .hbm, ⟨12, _⟩ => ⟨S40x24x32, .f32⟩
  | .hbm, ⟨13, _⟩ => ⟨S40x7, .i32⟩
  | .hbm, ⟨14, _⟩ => ⟨S40, .i32⟩
  | .hbm, ⟨15, _⟩ => ⟨S960x4096, .bf16⟩
  | .hbm, ⟨16, _⟩ => ⟨S1x4096, .f32⟩
  | .hbm, ⟨17, _⟩ => ⟨S1x4640, .f32⟩
  | .hbm, ⟨18, _⟩ => ⟨S1x32, .f32⟩
  | .hbm, ⟨19, _⟩ => ⟨S960x4608, .f32⟩
  | .hbm, ⟨20, _⟩ => ⟨S960x2560, .bf16⟩
  | .hbm, ⟨21, _⟩ => ⟨S960x32, .f32⟩
  | .hbm, ⟨22, _⟩ => ⟨S40x24x4096, .i8⟩
  | .local _ .vmem, ⟨0, _⟩ => ⟨S960x4096, .bf16⟩
  | .local _ .vmem, ⟨1, _⟩ => ⟨S1x4096, .f32⟩
  | .local _ .vmem, ⟨2, _⟩ => ⟨S4096x4640, .i8⟩
  | .local _ .vmem, ⟨3, _⟩ => ⟨S1x4640, .f32⟩
  | .local _ .vmem, ⟨4, _⟩ => ⟨S1x32, .f32⟩
  | .local _ .vmem, ⟨5, _⟩ => ⟨S960x4608, .f32⟩
  | .local _ .vmem, ⟨6, _⟩ => ⟨S960x2560, .bf16⟩
  | .local _ .vmem, ⟨7, _⟩ => ⟨S960x32, .f32⟩
  | .local _ .vmem, ⟨8, _⟩ => ⟨S40x24x4096, .i8⟩
  | _, _ => ⟨S40x24x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S960x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S960x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S960x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S960x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x24x4096 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.OutMath.lean ====
module

public import Idealize.ShloMosaic.Lib.Pointwise

@[expose] public section

noncomputable section

namespace Cert.OutMath

open Idealize.ShloMosaic

/-- The output projection at row `24·b + s` and column `q`: the residual plus the codes' product with the weights, scaled
    by the row's scale and the column's. -/
def outG (gc : Vec Ideal ⟨3, ![40, 24, 2048]⟩ .i8) (gs : Vec Ideal ⟨2, ![40, 24]⟩ .f32) (w : Vec Ideal ⟨2, ![2048, 4096]⟩ .i8)
    (ws : Vec Ideal ⟨1, ![4096]⟩ .f32) (x : Vec Ideal ⟨3, ![40, 24, 4096]⟩ .bf16) (r : Fin 960) (q : Fin 4096) : EReal :=
  x (ix3 (⟨r.val / 24, by omega⟩ : Fin 40) (⟨r.val % 24, by omega⟩ : Fin 24) q)
  + (∑ k : Fin 2048, (((gc (ix3 (⟨r.val / 24, by omega⟩ : Fin 40) (⟨r.val % 24, by omega⟩ : Fin 24) k)).toInt : ℝ) : EReal)
        * (((w (ix2 k q)).toInt : ℝ) : EReal))
    * gs (ix2 (⟨r.val / 24, by omega⟩ : Fin 40) (⟨r.val % 24, by omega⟩ : Fin 24)) * ws (ix1 q)

end Cert.OutMath

end
-- ==== Proof.OutVal.lean ====
module

public import proofs.«01_k».proof.Proof.Gen.OutProjIdeal.Value
public import Idealize.ShloMosaic.Lib.Pointwise
public import Idealize.ShloMosaic.Lib.Pipeline.Value
public import Idealize.ShloMosaic.Lib.Pipeline.ReadBack
public import Idealize.ShloMosaic.Lib.Pipeline.ValueKit
public import Idealize.ShloMosaic.Lib.Tactic

@[expose] public section

set_option maxRecDepth 16384

noncomputable section

namespace Cert.OutProjIdeal.Hand

open Cert.OutProjIdeal Cert.OutProjIdeal.Gen Cert.OutProjIdeal.Value
open Idealize.ShloMosaic Idealize.ShloMosaic.TcCoe Idealize.SL.Sem
open Idealize.ShloMosaic.Pipeline (Dat)

/-- The codes as the scratch holds them: row `24·b + s` is sequence `b`'s step `s`, each code the number it stands for. -/
def scr (x0 : Vec Ideal S40x24x2048 .i8) : Vec Ideal S960x2048 .bf16 :=
  fun y => (((x0 (ix3 (⟨(y 0).val / 24, by have := (y 0).isLt; simp at this ⊢; omega⟩ : Fin 40) (⟨(y 0).val % 24, Nat.mod_lt _ (by decide)⟩ : Fin 24) (y 1))).toInt : ℝ) : EReal)

/-- One block of the result: the residual plus the scaled product of the codes and the weight block. -/
def outB (s : Vec Ideal S960x2048 .bf16) (x1 : Vec Ideal S960x128 .f32) (x2 : Vec Ideal S2048x512 .i8) (x3 : Vec Ideal S1x512 .f32)
    (x4 : Vec Ideal S960x512 .bf16) : Vec Ideal S960x512 .bf16 :=
  fun y => (x4 y : EReal) + (∑ k : Fin 2048, (s (ix2 (y 0) k) : EReal) * (((x2 (ix2 k (y 1))).toInt : ℝ) : EReal))
    * x1 (ix2 (y 0) (⟨(y 1).val % 128, Nat.mod_lt _ (by decide)⟩ : Fin 128)) * x3 (ix2 (0 : Fin 1) (y 1))

theorem hz2 : (![0, 0] : Fin 2 → Nat) = fun _ => 0 := funext fun a => by fin_cases a <;> rfl

theorem emb_rows (o n w : Nat) (inb : ∀ a, (![o, 0] : Fin 2 → Nat) a + (![n, w] : Fin 2 → Nat) a ≤ (⟨2, ![960, w]⟩ : Shape).size a)
    (r : Fin n) (q : Fin w) (h : o + r.val < 960) :
    (Rect.unit (s := ⟨2, ![960, w]⟩) ![o, 0] ![n, w] inb).emb (ix2 r q) = ix2 (⟨o + r.val, h⟩ : Fin 960) q := by
  funext a
  apply Fin.ext
  match a with
  | ⟨0, _⟩ => show o + 1 * r.val = o + r.val; omega
  | ⟨1, _⟩ => show 0 + 1 * q.val = q.val; omega

/-- A block's rows `o … o+239` of the payload, from the rows of the operands. -/
theorem pay_rows (o : Nat) (ho : o + 240 ≤ 960) (s : Vec Ideal S960x2048 .bf16) (g : Vec Ideal S960x128 .f32) (w : Vec Ideal S2048x512 .i8) (ws : Vec Ideal S1x512 .f32)
    (xr : Vec Ideal S960x512 .bf16) (inb1 inb2 inb3) (h : ∀ a, (![o, 0] : Fin 2 → Nat) a + S240x512.size a ≤ S960x512.size a) (x : S240x512.Idx) :
    k0_pay3 (F := Ideal) (View.ld s (Rect.unit (s := S960x2048) ![o, 0] S240x2048.size inb1)) w
      (View.ld g (Rect.unit (s := S960x128) ![o, 0] S240x128.size inb2)) (View.ld xr (Rect.unit (s := S960x512) ![o, 0] S240x512.size inb3)) ws x
    = outB s g w ws xr ((Rect.unit (s := S960x512) ![o, 0] S240x512.size h).emb x) := by
  idx_vars x
  rw [show (Rect.unit (s := S960x512) ![o, 0] S240x512.size h).emb (ix2 x0 x1) = ix2 (⟨o + x0.val, by omega⟩ : Fin 960) x1 from emb_rows o 240 512 h x0 x1 (by omega)]
  pointwise [k0_pay3, outB]
  have hx : x1.val < 512 := x1.isLt
  refine congrArg₂ (· + ·) rfl (congrArg₂ (· * ·) (congrArg₂ (· * ·) rfl ?_) rfl)
  split_ifs <;> exact congrArg g (congrArg (ix2 _) (Fin.ext (by dsimp only; omega)))

/-- Two batches' codes, flattened to 48 rows, are the rows they become. -/
theorem pay_codes (n : Nat) (hn : n < 20) (xc : Vec Ideal S40x24x2048 .i8) (inb1) (h : ∀ a, (![48 * n, 0] : Fin 2 → Nat) a + S48x2048.size a ≤ S960x2048.size a) (x : S48x2048.Idx) :
    k0_pay2 (F := Ideal) (View.ld xc (Rect.unit (s := S40x24x2048) ![2 * n, 0, 0] S2x24x2048.size inb1)) x
    = scr xc ((Rect.unit (s := S960x2048) ![48 * n, 0] S48x2048.size h).emb x) := by
  idx_vars x
  rw [show (Rect.unit (s := S960x2048) ![48 * n, 0] S48x2048.size h).emb (ix2 x0 x1) = ix2 (⟨48 * n + x0.val, by omega⟩ : Fin 960) x1 from emb_rows (48 * n) 48 2048 h x0 x1 (by omega)]
  pointwise [k0_pay2, scr]
  have hx : x0.val < 48 := x0.isLt
  rw [show (⟨(48 * n + x0.val) / 24, by omega⟩ : Fin 40) = ⟨2 * n + x0.val / 24, by omega⟩ from Fin.ext (by dsimp only; omega),
    show (⟨(48 * n + x0.val) % 24, by omega⟩ : Fin 24) = ⟨x0.val % 24, by omega⟩ from Fin.ext (by dsimp only; omega)]
  rfl

theorem trip_eq (𝒱 : Variants) (c : Dev nD) (bd : Option 𝒱.V) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc) (X : BufTy.Contents (Elt Ideal) a1.view.ty) (k : Fin k0_t1_loop.trips) :
    tripL_k0_t1 (F := Ideal) 𝒱 c bd i a1 h1 a2 h2 a3 h3 a4 h4 a5 h5 a6 h6 a7 h7 hc X k
      = [⟨Rect.unit (s := S960x2048) (k0_off2 k) S48x2048.size (k0_off2_inb i k hc), k0_pay2 (View.readAt (Elt Ideal) a1.view (Rect.unit (s := S40x24x2048) (k0_off1 k) S2x24x2048.size (k0_off1_inb i k hc)).toLoadRect X)⟩] := by
  unfold tripL_k0_t1 trip_k0_t1
  rfl

theorem off2_eq : ∀ k : Fin k0_t1_loop.trips, k0_off2 k = ![48 * k.val, 0] := by decide +kernel
theorem off1_eq : ∀ k : Fin k0_t1_loop.trips, k0_off1 k = ![2 * k.val, 0, 0] := by decide +kernel

/-- Every piece the loop stores is a block of `scr x0`. -/
theorem pb_pieces (𝒱 : Variants) (c : Dev nD) (bd : Option 𝒱.V) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc) (x0 : Vec Ideal S40x24x2048 .i8) :
    ∀ n : ℕ, ∀ p ∈ pb_k0_t1 (F := Ideal) 𝒱 c bd i a1 h1 a2 h2 a3 h3 a4 h4 a5 h5 a6 h6 a7 h7 hc (h1.unread x0) n, ∀ x : p.1.shape.Idx, p.2 x = scr x0 (p.1.emb x)
  | 0 => by intro p hp; exact absurd hp List.not_mem_nil
  | n + 1 => by
    by_cases hn : n < k0_t1_loop.trips
    · rw [pb_k0_t1_succ 𝒱 c bd i a1 h1 a2 h2 a3 h3 a4 h4 a5 h5 a6 h6 a7 h7 hc (h1.unread x0) ⟨n, hn⟩, trip_eq]
      intro p hp
      rw [List.mem_append, List.mem_singleton] at hp
      rcases hp with rfl | hp
      · have hn' : n < 20 := Nat.lt_of_lt_of_le hn k0_t1_abs.2.1
        intro x
        dsimp only at x ⊢
        rw [View.readAt_eq_ld, h1.read_unread]
        have e2 := off2_eq ⟨n, hn⟩
        have e1 := off1_eq ⟨n, hn⟩
        generalize k0_off2_inb i ⟨n, hn⟩ hc = w2 at x ⊢
        generalize k0_off1_inb i ⟨n, hn⟩ hc = w1
        revert x
        generalize k0_off2 ⟨n, hn⟩ = o2 at w2 e2 ⊢
        generalize k0_off1 ⟨n, hn⟩ = o1 at w1 e1 ⊢
        subst e2; subst e1
        intro x
        exact pay_codes n hn' x0 _ w2 x
      · exact pb_pieces 𝒱 c bd i a1 h1 a2 h2 a3 h3 a4 h4 a5 h5 a6 h6 a7 h7 hc x0 n p hp
    · rw [pb_k0_t1.eq_2]; unfold pb_k0_t1Step; rw [dif_neg hn]
      exact pb_pieces 𝒱 c bd i a1 h1 a2 h2 a3 h3 a4 h4 a5 h5 a6 h6 a7 h7 hc x0 n

theorem sout_A (c : Dev nD) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc : cond0_0 i) (x0 : Vec Ideal S40x24x2048 .i8) (x1 : Vec Ideal S960x128 .f32) (x2 : Vec Ideal S2048x512 .i8) (x3 : Vec Ideal S1x512 .f32) (x4 : Vec Ideal S960x512 .bf16) :
    sout0_A_0 c i a1 h1 a2 h2 a3 h3 a4 h4 a5 h5 a6 h6 a7 h7 hc x0 x1 x2 x3 x4 = scr x0 := by
  unfold sout0_A_0
  rw [View.read_writes_junk_eq_canon]
  funext y
  refine View.canon_apply_of_pieces _ _ ?_ y (scover0_A_0 c i a1 h1 a2 h2 a3 h3 a4 h4 a5 h5 a6 h6 a7 h7 hc x0 x1 x2 x3 x4 y)
  unfold kernelRun0_A
  dsimp only
  exact pb_pieces _ c none i a1 h1 a2 h2 a3 h3 a4 h4 a5 h5 a6 h6 a7 h7 hc x0 _

/-- The canon of the pieces the loop leaves is `scr x0`, whole. -/
theorem canon_pb (c : Dev nD) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc : cond0_0 i) (x0 : Vec Ideal S40x24x2048 .i8) (x1 : Vec Ideal S960x128 .f32) (x2 : Vec Ideal S2048x512 .i8) (x3 : Vec Ideal S1x512 .f32) (x4 : Vec Ideal S960x512 .bf16) :
    View.canon (pb_k0_t1 (F := Ideal) Variants.none c none i a1 h1 a2 h2 a3 h3 a4 h4 a5 h5 a6 h6 a7 h7 hc (h1.unread x0) (Scf.trips k0_t1_loop.lb k0_t1_loop.ub k0_t1_loop.st)) = scr x0 := by
  have := sout_A c i a1 h1 a2 h2 a3 h3 a4 h4 a5 h5 a6 h6 a7 h7 hc x0 x1 x2 x3 x4
  unfold sout0_A_0 at this
  rw [View.read_writes_junk_eq_canon] at this
  unfold kernelRun0_A at this
  exact this

theorem sout_B (c : Dev nD) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc : ¬cond0_0 i) (x0 : Vec Ideal S40x24x2048 .i8) (x1 : Vec Ideal S960x128 .f32) (x2 : Vec Ideal S2048x512 .i8) (x3 : Vec Ideal S1x512 .f32) (x4 : Vec Ideal S960x512 .bf16) (xs : Vec Ideal S960x2048 .bf16) :
    sout0_B_0 c i a1 h1 a2 h2 a3 h3 a4 h4 a5 h5 a6 h6 a7 h7 hc x0 x1 x2 x3 x4 xs = xs := by
  unfold sout0_B_0
  rfl

theorem out_B (c : Dev nD) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc : ¬cond0_0 i) (x0 : Vec Ideal S40x24x2048 .i8) (x1 : Vec Ideal S960x128 .f32) (x2 : Vec Ideal S2048x512 .i8) (x3 : Vec Ideal S1x512 .f32) (x4 : Vec Ideal S960x512 .bf16) (xs : Vec Ideal S960x2048 .bf16) :
    out0_B_5 c i a1 h1 a2 h2 a3 h3 a4 h4 a5 h5 a6 h6 a7 h7 hc x0 x1 x2 x3 x4 xs = outB xs x1 x2 x3 x4 := by
  unfold out0_B_5
  rw [View.read_writes_junk_eq_canon]
  funext y
  refine View.canon_apply_of_pieces _ _ (View.PiecesOf.mem ?_) y (cover0_B_5 c i a1 h1 a2 h2 a3 h3 a4 h4 a5 h5 a6 h6 a7 h7 hc x0 x1 x2 x3 x4 xs y)
  unfold kernelRun0_B
  dsimp only
  sl_unfold_words
  simp only [View.readAt_eq_ld, h1.read_unread, h2.read_unread, h3.read_unread, h4.read_unread, h5.read_unread, h7.read_unread, View.ld_unit_zero (S := S2048x512) hz2, View.ld_unit_zero (S := S1x512) hz2]
  exact ⟨pay_rows 720 (by decide) xs x1 x2 x3 x4 _ _ _ inb_S960x512_S240x512_720_0, pay_rows 480 (by decide) xs x1 x2 x3 x4 _ _ _ inb_S960x512_S240x512_480_0, pay_rows 240 (by decide) xs x1 x2 x3 x4 _ _ _ inb_S960x512_S240x512_240_0, pay_rows 0 (by decide) xs x1 x2 x3 x4 _ _ _ inb_S960x512_S240x512_0_0, trivial⟩

theorem out_A (c : Dev nD) (i : grid0.Coords) (a1 : Memref sig .tc .vmem S40x24x2048 .i8) (h1 : a1.IsWhole) (a2 : Memref sig .tc .vmem S960x128 .f32) (h2 : a2.IsWhole) (a3 : Memref sig .tc .vmem S2048x512 .i8) (h3 : a3.IsWhole) (a4 : Memref sig .tc .vmem S1x512 .f32) (h4 : a4.IsWhole) (a5 : Memref sig .tc .vmem S960x512 .bf16) (h5 : a5.IsWhole) (a6 : Memref sig .tc .vmem S960x512 .bf16) (h6 : a6.IsWhole) (a7 : Memref sig .tc .vmem S960x2048 .bf16) (h7 : a7.IsWhole) (hc : cond0_0 i) (x0 : Vec Ideal S40x24x2048 .i8) (x1 : Vec Ideal S960x128 .f32) (x2 : Vec Ideal S2048x512 .i8) (x3 : Vec Ideal S1x512 .f32) (x4 : Vec Ideal S960x512 .bf16) :
    out0_A_5 c i a1 h1 a2 h2 a3 h3 a4 h4 a5 h5 a6 h6 a7 h7 hc x0 x1 x2 x3 x4 = outB (scr x0) x1 x2 x3 x4 := by
  unfold out0_A_5
  rw [View.read_writes_junk_eq_canon]
  funext y
  refine View.canon_apply_of_pieces _ _ (View.PiecesOf.mem ?_) y (cover0_A_5 c i a1 h1 a2 h2 a3 h3 a4 h4 a5 h5 a6 h6 a7 h7 hc x0 x1 x2 x3 x4 y)
  unfold kernelRun0_A
  dsimp only
  sl_unfold_words
  simp only [View.readAt_eq_ld, h1.read_unread, h2.read_unread, h3.read_unread, h4.read_unread, h5.read_unread, h7.read_unread, View.ld_unit_zero (S := S2048x512) hz2, View.ld_unit_zero (S := S1x512) hz2, View.readCov_eq_canon']
  have e : View.canon (pb_k0_t1 (F := Ideal) Variants.none c none i a1 h1 a2 h2 a3 h3 a4 h4 a5 h5 a6 h6 a7 h7 hc (h1.unread x0) (Scf.trips 0#32 (Scalar.addi 0#32 20#32) 1#32)) = scr x0 := canon_pb c i a1 h1 a2 h2 a3 h3 a4 h4 a5 h5 a6 h6 a7 h7 hc x0 x1 x2 x3 x4
  rw [e]
  exact ⟨pay_rows 720 (by decide) (scr x0) x1 x2 x3 x4 _ _ _ inb_S960x512_S240x512_720_0, pay_rows 480 (by decide) (scr x0) x1 x2 x3 x4 _ _ _ inb_S960x512_S240x512_480_0, pay_rows 240 (by decide) (scr x0) x1 x2 x3 x4 _ _ _ inb_S960x512_S240x512_240_0, pay_rows 0 (by decide) (scr x0) x1 x2 x3 x4 _ _ _ inb_S960x512_S240x512_0_0, trivial⟩

end Cert.OutProjIdeal.Hand

end
-- ==== Proof.OutFinal.lean ====
module

public import proofs.«01_k».proof.Proof.OutMath
public import proofs.«01_k».proof.Proof.OutVal

@[expose] public section

set_option maxRecDepth 16384

noncomputable section

namespace Cert.OutProjIdeal.Hand

open Cert.OutProjIdeal Cert.OutProjIdeal.Gen Cert.OutProjIdeal.Value Cert.OutMath
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block each window reads at each point. -/
theorem idx0 : ∀ t : Fin cfg0.N, win0_0.index t = ![0, 0, 0] ∧ win0_1.index t = ![0, 0] ∧ win0_2.index t = ![0, t.val]
    ∧ win0_3.index t = ![0, t.val] ∧ win0_4.index t = ![0, t.val] :=
  (by decide +kernel : ∀ t : Fin grid0.N, win0_0.index t = ![0, 0, 0] ∧ win0_1.index t = ![0, 0] ∧ win0_2.index t = ![0, t.val]
    ∧ win0_3.index t = ![0, t.val] ∧ win0_4.index t = ![0, t.val])

/-- The scratch after every point: the first point's codes, which never change. -/
theorem iblk0_eq (c : Dev nD) (t : Fin cfg0.N) : (iblk m c 0 t : Vec Ideal S40x24x2048 .i8) = m ((c : Thread nD τ).loc main_arg0) := by
  funext y
  idx_vars y
  blk_ext! [iblk, V, (idx0 t).1]

/-- The fold after point `n`: that point's block of the result, and the codes. -/
theorem fold_eq (c : Dev nD) : ∀ (n : ℕ) (h : n < cfg0.N),
    Pipeline.accAt (fun n h => stAt0 m c n h junk0) (stAt0 m c) 0 n (by omega)
      = (outB (scr (m ((c : Thread nD τ).loc main_arg0))) (iblk m c 1 ⟨n, h⟩) (iblk m c 2 ⟨n, h⟩) (iblk m c 3 ⟨n, h⟩) (iblk m c 4 ⟨n, h⟩),
          scr (m ((c : Thread nD τ).loc main_arg0))) := by
  intro n h
  rw [← outsAt0_sweep (hn := h)]
  induction n with
  | zero =>
    rw [outsAt0_A m c ⟨0, h⟩ rfl, out_A, sout_A, iblk0_eq]
  | succ n ih =>
    have hN : cfg0.N = 8 := N_0
    have hB : ¬(⟨n + 1, h⟩ : Fin cfg0.N).val % 8 = 0 := by dsimp only; omega
    have e : (outsAt0 m c ((⟨n + 1, h⟩ : Fin cfg0.N).val - 1) (Nat.lt_of_le_of_lt (Nat.sub_le _ _) h)).2
        = scr (m ((c : Thread nD τ).loc main_arg0)) := congrArg Prod.snd (ih (Nat.lt_of_succ_lt h))
    rw [outsAt0_B m c ⟨n + 1, h⟩ hB, out_B, sout_B, e]

theorem final_eq (c : Dev nD) : G5 m c = fun i => outG (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) := by
  funext i
  have h0 : (i 0).val < 960 := (i 0).isLt
  have h1 : (i 1).val < 4096 := (i 1).isLt
  have hN : cfg0.N = 8 := N_0
  have hp : pt5Of i < cfg0.N := by show 8 * ((i 0).val / 960 - 0) + 1 * ((i 1).val / 512 - 0) < _; omega
  unfold G5
  rw [dif_pos hp, fold_eq m c _ hp]
  have hpv : pt5Of i = (i 1).val / 512 := by show 8 * ((i 0).val / 960 - 0) + 1 * ((i 1).val / 512 - 0) = _; omega
  generalize hl : loc5Of i = l
  have l0 : (l 0).val = (i 0).val := by rw [← hl]; show (i 0).val % 960 = _; omega
  have l1 : (l 1).val = (i 1).val % 512 := by rw [← hl]
  generalize pt5Of i = p at hp hpv ⊢
  clear hl
  change S960x512.Idx at l
  change S960x4096.Idx at i
  idx_vars l
  idx_vars i
  obtain ⟨e0, e1, e2, e3, e4⟩ := idx0 ⟨p, hp⟩
  unfold outB outG scr
  pointwise
  blk_point [iblk, V, e0, e1, e2, e3, e4]

/-- The run: the result array at the output projection of the arguments, the arguments unchanged. -/
theorem run : θ_run defs (onTc (τ := τ) (main (F := Ideal))) ⟨m, fun _ => 0, ρ⟩ fun r => ∀ c : Dev nD,
      r.2.mem ((c : Thread nD τ).loc main_v4) = (fun i => outG (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) : S960x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩) (Value.run m ρ)

end Cert.OutProjIdeal.Hand

end
-- ==== Proof.InLoop.lean ====
/- The loop of the replay's row loads, for the certificate of `InProj`: each trip reads seven row numbers of the table
   `acc_idx` and loads the rows of `prev_b_codes` that they name, which are inside the array because every number of the
   table is below 24 (`Rows`). Nothing is stated of the rows copied. -/
module

public import proofs.«01_k».proof.Proof.Gen.InProj.Skeleton
public import proofs.«01_k».proof.Proof.Gen.InProj.Loops
public import proofs.«01_k».proof.Proof.Gen.InProj.Frame

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Every number of the table names a row: it is below 24. -/
abbrev Rows (x : Vec F S40x7 .i32) : Prop := ∀ y, BitVec.toNat (w := 32) (x y) < 24

/-- Row `w` of block `k` is inside the array, for each of the seven rows that a trip reads. -/
theorem off14_lt (k : Fin k0_t2_loop.trips) (w : BitVec 32) (hw : w.toNat < 24) :
    ∀ a, (k0_off14 k w) a + S1x1x2x128.size a ≤ S40x24x2x128.size a := by
  have hk : k.val < 40 := k.isLt
  intro a
  fin_cases a <;> simp [k0_off14, Scalar.indexCast, Scf.iv] <;> omega

/-- A word read off the table is below 24. -/
theorem word_lt (arg1 : Memref sig .tc .smem S40x7 .i32) (harg1 : arg1.IsWhole) (x : Vec F S40x7 .i32) (hx : Rows x)
    (r : LoadRect S40x7) (j : r.shape.Idx) :
    BitVec.toNat (w := 32) (View.readAt (Elt F) arg1.view r (harg1.unread x) j) < 24 := by
  rw [View.readAt_apply, Memref.IsWhole.read_unread]; exact hx _

variable
  (arg1 : Memref sig .tc .smem S40x7 .i32) (harg1 : arg1.IsWhole)
  (arg2 : Memref sig .tc .smem S40 .i32) (harg2 : arg2.IsWhole)
  (arg3 : Memref sig .tc .vmem S960x4096 .bf16) (harg3 : arg3.IsWhole)
  (arg4 : Memref sig .tc .vmem S1x4096 .f32) (harg4 : arg4.IsWhole)
  (arg5 : Memref sig .tc .vmem S4096x512 .i8) (harg5 : arg5.IsWhole)
  (arg6 : Memref sig .tc .vmem S1x512 .f32) (harg6 : arg6.IsWhole)
  (arg7 : Memref sig .tc .vmem S1x32 .f32) (harg7 : arg7.IsWhole)
  (arg8 : Memref sig .tc .vmem S1x32 .f32) (harg8 : arg8.IsWhole)
  (arg9 : Memref sig .tc .vmem S4x2048x128 .fp8e4m3) (harg9 : arg9.IsWhole)
  (arg10 : Memref sig .tc .vmem S4x32x64 .f32) (harg10 : arg10.IsWhole)
  (arg11 : Memref sig .tc .vmem S40x24x2048 .i8) (harg11 : arg11.IsWhole)
  (arg12 : Memref sig .tc .vmem S40x24x32 .f32) (harg12 : arg12.IsWhole)
  (arg13 : Memref sig .tc .vmem S40x24x2x128 .i8) (harg13 : arg13.IsWhole)
  (arg14 : Memref sig .tc .vmem S40x24x2 .f32) (harg14 : arg14.IsWhole)
  (arg15 : Memref sig .tc .vmem S40x24x32 .f32) (harg15 : arg15.IsWhole)
  (arg16 : Memref sig .tc .vmem S960x512 .f32) (harg16 : arg16.IsWhole)
  (arg17 : Memref sig .tc .vmem S960x512 .bf16) (harg17 : arg17.IsWhole)
  (arg18 : Memref sig .tc .vmem S960x32 .f32) (harg18 : arg18.IsWhole)
  (arg19 : Memref sig .tc .vmem S4x24x4096 .i8) (harg19 : arg19.IsWhole)
  (arg20 : Memref sig .tc .vmem S40x24 .f32) (harg20 : arg20.IsWhole)
  (arg21 : Memref sig .tc .vmem S4x2048x128 .fp8e4m3) (harg21 : arg21.IsWhole)
  (arg22 : Memref sig .tc .vmem S4x32x64 .f32) (harg22 : arg22.IsWhole)
  (arg23 : Memref sig .tc .vmem S4x16x128 .f32) (harg23 : arg23.IsWhole)
  (arg24 : Memref sig .tc .vmem S960x4096 .bf16) (harg24 : arg24.IsWhole)
  (arg25 : Memref sig .tc .vmem S960x128 .f32) (harg25 : arg25.IsWhole)
  (arg26 : Memref sig .tc .vmem S320x2048 .f32) (harg26 : arg26.IsWhole)
  (arg27 : Memref sig .tc .vmem S2x320x128 .f32) (harg27 : arg27.IsWhole)

set_option warn.classDefReducibility false in
set_option maxHeartbeats 2000000 in
/-- The loop by its invariant: the table and the codes as they were, the scratch at some contents. -/
@[sl_loop] def loopInv_k0_t2 (𝒱 : Variants) (c : Dev nD) (bd : Option 𝒱.V) (E : Set ℕ) (i : grid0.Coords) (k0_h1 : k0_cond1 i = 1#1)
    (x0 : {x : Vec F S40x7 .i32 // Rows x}) (X_arg13 : BufTy.Contents (Elt F) arg13.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 where
  inv := fun _ _ => iprop((arg1.view.loc (c : Thread nD τ) ↦[arg1.view.set]{fullShare} harg1.unread x0.1)
    ∗ (arg13.view.loc (c : Thread nD τ) ↦[arg13.view.set]{fullShare} X_arg13)
    ∗ (∃ f, arg27.view.loc (c : Thread nD τ) ↦[arg27.view.set]{fullShare} f))
  step k acc := by
    have hk : k.val < 40 := k.isLt
    iintro ⟨H1, H13, ⟨%f27, H27⟩⟩
    unfold k0_t2_body
    simp only [k0_part20_eq_skeleton, k0_part21_eq_skeleton, k0_part22_eq_skeleton, k0_part23_eq_skeleton]
    unfold k0_part20_skel k0_part21_skel k0_part22_skel k0_part23_skel
    sl_exec (disch := (intro _; apply off14_lt; exact word_lt arg1 harg1 x0.1 x0.2 _ _))
    sl_step
    isplitl [H1]; · iexact H1
    isplitl [H13]; · iexact H13
    iexists _; iexact H27

end Cert.InProj.Hand

end
-- ==== Proof.InBase.lean ====
/- The body's three conditions in closed form over the grid's ten points, each window's buffer at a point, and the
   scratch buffers, for the certificate of `InProj`. -/
module

public import proofs.«01_k».proof.Proof.InLoop

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 9 — decided over the grid. -/
theorem hcond0_1 : ∀ t : Fin cfg0.N, cond0_1 (grid0.coords t) ↔ t.val < 9 :=
  (by decide +kernel : ∀ t : Fin grid0.N, cond0_1 (grid0.coords t) ↔ t.val < 9)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 9)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Each window's current staging memref at point `t`, spelled as the pipeline passes it (`bodyAt0`), and its wholeness. -/
abbrev ms0_0 (t : Fin cfg0.N) : Memref sig .tc .smem S40x7 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S40 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S960x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x32x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S40x24x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S40x24x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S40x24x2x128 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S40x24x2 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S40x24x32 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S960x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S960x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S960x32 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S4x24x4096 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S40x24 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S4x2048x128 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x32x64 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S4x16x128 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S960x4096 .bf16 := Memref.whole cc0_scratch0
abbrev scM0_1 : Memref sig .tc .vmem S960x128 .f32 := Memref.whole cc0_scratch1
abbrev scM0_2 : Memref sig .tc .vmem S320x2048 .f32 := Memref.whole cc0_scratch2
abbrev scM0_3 : Memref sig .tc .vmem S2x320x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.InProj.Hand

end
-- ==== Proof.InRunA.lean ====
/- The body of `InProj` at the first point, run once over its memory operations. -/
module

public import proofs.«01_k».proof.Proof.InBase

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a whole body is large
set_option maxHeartbeats 5640000 in
/-- The body's triple at the first point: the inputs' buffers at their contents, every other buffer at anything, handed back at some
    contents nothing names. -/
theorem runA (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc0 : cond0_0 i) (hc1 : cond0_1 i) (hc2 : ¬cond0_2 i)
    (x0 : {x : Vec F S40x7 .i32 // Rows x}) (x1 : Vec F S40 .i32) (x2 : Vec F S960x4096 .bf16) (x3 : Vec F S1x4096 .f32) (x4 : Vec F S4096x512 .i8) (x5 : Vec F S1x512 .f32) (x6 : Vec F S1x32 .f32) (x7 : Vec F S1x32 .f32) (x8 : Vec F S4x2048x128 .fp8e4m3) (x9 : Vec F S4x32x64 .f32) (x10 : Vec F S40x24x2048 .i8) (x11 : Vec F S40x24x32 .f32) (x12 : Vec F S40x24x2x128 .i8) (x13 : Vec F S40x24x2 .f32) (x14 : Vec F S40x24x32 .f32) :
      ∀ (E : Set ℕ) (K : PUnit → sProp 𝕄),
        iprop(owns (c : Thread nD τ) arg1 fullShare x0.1
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (iprop(owns (c : Thread nD τ) arg1 fullShare x0.1
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)) -∗ K ⟨⟩))
          ⊢ wp frame (wpE (defs₀ (F := F)) Variants.none c none) E (cc0_in_proj_replay i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_in_proj_replay_eq_skeleton]; unfold cc0_in_proj_replay_skel
    simp only [k0_part25_eq_skeleton, k0_part116_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end Cert.InProj.Hand

end
-- ==== Proof.InRunB.lean ====
/- The body of `InProj` at the points between the first and the last, run once over its memory operations. -/
module

public import proofs.«01_k».proof.Proof.InRunA

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a whole body is large
set_option maxHeartbeats 5476000 in
/-- The body's triple at the points between the first and the last: the inputs' buffers at their contents, every other buffer at anything, handed back at some
    contents nothing names. -/
theorem runB (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc0 : ¬cond0_0 i) (hc1 : cond0_1 i) (hc2 : ¬cond0_2 i)
    (x0 : Vec F S40x7 .i32) (x1 : Vec F S40 .i32) (x2 : Vec F S960x4096 .bf16) (x3 : Vec F S1x4096 .f32) (x4 : Vec F S4096x512 .i8) (x5 : Vec F S1x512 .f32) (x6 : Vec F S1x32 .f32) (x7 : Vec F S1x32 .f32) (x8 : Vec F S4x2048x128 .fp8e4m3) (x9 : Vec F S4x32x64 .f32) (x10 : Vec F S40x24x2048 .i8) (x11 : Vec F S40x24x32 .f32) (x12 : Vec F S40x24x2x128 .i8) (x13 : Vec F S40x24x2 .f32) (x14 : Vec F S40x24x32 .f32) :
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)) -∗ K ⟨⟩))
          ⊢ wp frame (wpE (defs₀ (F := F)) Variants.none c none) E (cc0_in_proj_replay i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_in_proj_replay_eq_skeleton]; unfold cc0_in_proj_replay_skel
    simp only [k0_part116_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end Cert.InProj.Hand

end
-- ==== Proof.InRunC.lean ====
/- The body of `InProj` at the last point, run once over its memory operations. -/
module

public import proofs.«01_k».proof.Proof.InRunB

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a whole body is large
set_option maxHeartbeats 5460000 in
/-- The body's triple at the last point: the inputs' buffers at their contents, every other buffer at anything, handed back at some
    contents nothing names. -/
theorem runC (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc0 : ¬cond0_0 i) (hc1 : ¬cond0_1 i) (hc2 : cond0_2 i)
    (x0 : Vec F S40x7 .i32) (x1 : Vec F S40 .i32) (x2 : Vec F S960x4096 .bf16) (x3 : Vec F S1x4096 .f32) (x4 : Vec F S4096x512 .i8) (x5 : Vec F S1x512 .f32) (x6 : Vec F S1x32 .f32) (x7 : Vec F S1x32 .f32) (x8 : Vec F S4x2048x128 .fp8e4m3) (x9 : Vec F S4x32x64 .f32) (x10 : Vec F S40x24x2048 .i8) (x11 : Vec F S40x24x32 .f32) (x12 : Vec F S40x24x2x128 .i8) (x13 : Vec F S40x24x2 .f32) (x14 : Vec F S40x24x32 .f32) :
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)) -∗ K ⟨⟩))
          ⊢ wp frame (wpE (defs₀ (F := F)) Variants.none c none) E (cc0_in_proj_replay i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_in_proj_replay_eq_skeleton]; unfold cc0_in_proj_replay_skel
    rw [k0_part207_eq_skeleton, k0_part208_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end Cert.InProj.Hand

end
-- ==== Proof.InFrame.lean ====
/- The frame of `InProj`: the body's triple at each point of the grid put under the launch, so every run ends with the
   arguments unchanged and every counter at zero. -/
module

public import proofs.«01_k».proof.Proof.InRunA
public import proofs.«01_k».proof.Proof.InRunB
public import proofs.«01_k».proof.Proof.InRunC
public import Idealize.ShloMosaic.Lib.Claim

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The last 32 weight columns end inside a block of 512: past the array the buffer holds what it held, `d`. -/
def X4 (c : Dev nD) (t : Fin cfg0.N) (d : Vec F S4096x512 .i8) : Vec F S4096x512 .i8 := win0_4.fill (grid0.coords t) d (iblk m c 4 t)

/-- The same of the weight scales. -/
def X5 (c : Dev nD) (t : Fin cfg0.N) (d : Vec F S1x512 .f32) : Vec F S1x512 .f32 := win0_5.fill (grid0.coords t) d (iblk m c 5 t)

/-- The windows nothing is stated of: the outputs. -/
def forgets0 : Fin 23 → Bool := fun w => Nat.ble 15 w.val

/-- The arrays as the region finds them; each input's buffer is left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X4 m c t (fun _ => (0#8 : BitVec 8))
    | ⟨5, _⟩ => X5 m c t (fun _ => Scalar.ofBits .f32 0#32)
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  before0_12_of m (dats m 0 c) (A_eq m c 12) (after0_12 m c) t d
theorem after0_13 (c : Dev nD) (t : Fin cfg0.N) : (dats m 0 c).after 13 t = iblk m c 13 t := by dsimp only [dats]
theorem before0_13 (c : Dev nD) (t : Fin cfg0.N) (d) : (dats m 0 c).before 13 t d = iblk m c 13 t :=
  before0_13_of m (dats m 0 c) (A_eq m c 13) (after0_13 m c) t d
theorem after0_14 (c : Dev nD) (t : Fin cfg0.N) : (dats m 0 c).after 14 t = iblk m c 14 t := by dsimp only [dats]
theorem before0_14 (c : Dev nD) (t : Fin cfg0.N) (d) : (dats m 0 c).before 14 t d = iblk m c 14 t :=
  before0_14_of m (dats m 0 c) (A_eq m c 14) (after0_14 m c) t d

/-- The weights and their scales are fetched at every point. -/
theorem fetch4 : ∀ t : Fin cfg0.N, (cfg0.win 4).fetch t = true :=
  (by decide +kernel : ∀ t : Fin grid0.N, win0_4.fetch t = true)
theorem fetch5 : ∀ t : Fin cfg0.N, (cfg0.win 5).fetch t = true :=
  (by decide +kernel : ∀ t : Fin grid0.N, win0_5.fetch t = true)

theorem before0_4 (c : Dev nD) (t : Fin cfg0.N) (d) : (dats m 0 c).before 4 t d = X4 m c t d := by
  unfold Dat.before; rw [if_pos (fetch4 t)]; rfl
theorem before0_5 (c : Dev nD) (t : Fin cfg0.N) (d) : (dats m 0 c).before 5 t d = X5 m c t d := by
  unfold Dat.before; rw [if_pos (fetch5 t)]; rfl

/-- What the body leaves of the weights is their block, past the array anything. -/
theorem left4 (c : Dev nD) (t : Fin cfg0.N) (d) :
    win0_4.fill (grid0.coords t) d (win0_4.cut (grid0.coords t) ((dats m 0 c).after 4 t)) = X4 m c t d := by
  rw [show (dats m 0 c).after 4 t = X4 m c t (fun _ => (0#8 : BitVec 8)) from by dsimp only [dats]]
  unfold X4; rw [Window.cut_fill]
theorem left5 (c : Dev nD) (t : Fin cfg0.N) (d) :
    win0_5.fill (grid0.coords t) d (win0_5.cut (grid0.coords t) ((dats m 0 c).after 5 t)) = X5 m c t d := by
  rw [show (dats m 0 c).after 5 t = X5 m c t (fun _ => Scalar.ofBits .f32 0#32) from by dsimp only [dats]]
  unfold X5; rw [Window.cut_fill]

theorem back4 (c : Dev nD) (t : Fin cfg0.N) : (iprop(∃ d, owns (c : Thread nD τ) (ms0_4 t) fullShare (X4 m c t d)) : sProp 𝕄)
    ⊢ iprop(∃ d, owns (c : Thread nD τ) (ms0_4 t) fullShare (win0_4.fill (grid0.coords t) d (win0_4.cut (grid0.coords t) ((dats m 0 c).after 4 t)))) := by
  iintro ⟨%d, H⟩
  iexists d
  rw [left4]
  iexact H
theorem back5 (c : Dev nD) (t : Fin cfg0.N) : (iprop(∃ d, owns (c : Thread nD τ) (ms0_5 t) fullShare (X5 m c t d)) : sProp 𝕄)
    ⊢ iprop(∃ d, owns (c : Thread nD τ) (ms0_5 t) fullShare (win0_5.fill (grid0.coords t) d (win0_5.cut (grid0.coords t) ((dats m 0 c).after 5 t)))) := by
  iintro ⟨%d, H⟩
  iexists d
  rw [left5]
  iexact H

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare (win0_4.fill (grid0.coords t) d (win0_4.cut (grid0.coords t) ((dats m 0 c).after 4 t))))
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d))

variable (hR : ∀ c t, Rows (iblk m c 0 t))
include hR

/-- The run of the point's case. -/
theorem run_at (c : Dev nD) (t : Fin cfg0.N) (d4 : Vec F S4096x512 .i8) (d5 : Vec F S1x512 .f32) (K : PUnit → sProp 𝕄) :
    iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) scM0_0 fullShare d)
    ∗ (∃ d, owns (c : Thread nD τ) scM0_1 fullShare d)
    ∗ (∃ d, owns (c : Thread nD τ) scM0_2 fullShare d)
    ∗ (∃ d, owns (c : Thread nD τ) scM0_3 fullShare d)
    ∗ (iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) scM0_0 fullShare d)
    ∗ (∃ d, owns (c : Thread nD τ) scM0_1 fullShare d)
    ∗ (∃ d, owns (c : Thread nD τ) scM0_2 fullShare d)
    ∗ (∃ d, owns (c : Thread nD τ) scM0_3 fullShare d)) -∗ K ⟨⟩))
    ⊢ wp frame (wpE (defs₀ (F := F)) Variants.none c none) Set.univ (bodyAt0 t) K := by
  unfold bodyAt0
  have hN : t.val < 10 := lt_of_lt_of_eq t.isLt (show cfg0.N = 10 from N_0)
  by_cases h0 : t.val % 10 = 0
  · have h1 : t.val < 9 := by omega
    have h2 : ¬t.val % 10 = 9 := by omega
    exact runA c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) ⟨iblk m c 0 t, hR c t⟩ (iblk m c 1 t) (iblk m c 2 t) (iblk m c 3 t) (X4 m c t d4) (X5 m c t d5) (iblk m c 6 t) (iblk m c 7 t) (iblk m c 8 t) (iblk m c 9 t) (iblk m c 10 t) (iblk m c 11 t) (iblk m c 12 t) (iblk m c 13 t) (iblk m c 14 t) Set.univ K
  · by_cases h1 : t.val < 9
    · have h2 : ¬t.val % 10 = 9 := by omega
      exact runB c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (X4 m c t d4) (X5 m c t d5) (iblk m c 6 t) (iblk m c 7 t) (iblk m c 8 t) (iblk m c 9 t) (iblk m c 10 t) (iblk m c 11 t) (iblk m c 12 t) (iblk m c 13 t) (iblk m c 14 t) Set.univ K
    · have h2 : t.val % 10 = 9 := by omega
      exact runC c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (X4 m c t d4) (X5 m c t d5) (iblk m c 6 t) (iblk m c 7 t) (iblk m c 8 t) (iblk m c 9 t) (iblk m c 10 t) (iblk m c 11 t) (iblk m c 12 t) (iblk m c 13 t) (iblk m c 14 t) Set.univ K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, after0_0, after0_1, after0_2, after0_3, after0_6, after0_7, after0_8, after0_9, after0_10, after0_11, after0_12, after0_13, after0_14]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_at m hR c t d4 d5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iapply (back4 m c t); iexists d4; iexact H4
  isplitl [H5]; · iapply (back5 m c t); iexists d5; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

omit hR in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets0 := fun t => by
  rw [bigSep_W0, bigSep_W0, defs₀_row]
  exact triple_restated (sound_body m hR c t) rfl .rfl fun _ => .rfl

/-! ## The run -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m hR c) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (Pipeline.RDat.FramePost.arr_in h.1 c 9 rfl).trans ((A_eq m c 9).trans (V_main_arg7 m c)),
      (Pipeline.RDat.FramePost.arr_in h.1 c 10 rfl).trans ((A_eq m c 10).trans (V_main_arg8 m c)),
      (Pipeline.RDat.FramePost.arr_in h.1 c 11 rfl).trans ((A_eq m c 11).trans (V_main_arg9 m c)),
      (Pipeline.RDat.FramePost.arr_in h.1 c 12 rfl).trans ((A_eq m c 12).trans (V_main_arg10 m c)),
      (Pipeline.RDat.FramePost.arr_in h.1 c 13 rfl).trans ((A_eq m c 13).trans (V_main_arg11 m c)),
      (Pipeline.RDat.FramePost.arr_in h.1 c 14 rfl).trans ((A_eq m c 14).trans (V_main_arg12 m c)),
      (Pipeline.RDat.FramePost.arr_in h.1 c 0 rfl).trans ((A_eq m c 0).trans (V_main_arg13 m c)),
      (Pipeline.RDat.FramePost.arr_in h.1 c 1 rfl).trans ((A_eq m c 1).trans (V_main_arg14 m c))⟩, h.2⟩)
    (run_main_quiescent m ρ hR)

end Cert.InProj.Hand

end
-- ==== Proof.InMath.lean ====
/- The in-projection in closed form, row by row: the normalised row, its scale, its codes, and what the results are of
   them. -/
module

public import Idealize.ShloMosaic.Lib.Pointwise

@[expose] public section

noncomputable section

namespace Cert.InMath

open Idealize.ShloMosaic

/-- The mean square of a row of 4096, and the small constant added under the root. -/
def meanSq (x : Fin 4096 → EReal) : EReal :=
  Ideal.div (∑ j, x j * x j) (Ideal.ofBits FTy.f32 1166016512#32) + Ideal.ofBits FTy.f32 925353388#32

/-- The row divided by its root mean square, times the weights. -/
def nrm (x w : Fin 4096 → EReal) (k : Fin 4096) : EReal := Ideal.div (x k) (Ideal.sqrt (meanSq x)) * w k

/-- The largest absolute value of the normalised row. -/
def amax (x w : Fin 4096 → EReal) : EReal :=
  Finset.fold max (Ideal.ofBits FTy.f32 4286578688#32) (fun j => FloatOps.absf (F := Ideal) (φ := .f32) (nrm x w j)) Finset.univ

/-- The row's scale: one for a row of zeros, the largest absolute value over 127 otherwise. -/
def scl (x w : Fin 4096 → EReal) : EReal := if amax x w = 0 then 1 else Ideal.div (amax x w) (Ideal.ofBits FTy.f32 1123942400#32)

/-- The code: the normalised element over the scale, rounded to even, within 127. -/
def cod (x w : Fin 4096 → EReal) (k : Fin 4096) : EReal :=
  min (Ideal.ofBits FTy.f32 1123942400#32) (max (Ideal.ofBits FTy.f32 3271426048#32)
    (Ideal.liftRound Ideal.roundHalfEven (Ideal.div (nrm x w k) (scl x w))))

/-- A row's product with a column of weight codes, scaled by the row's scale and the column's. -/
def dotRow (x w : Fin 4096 → EReal) (c : Fin 4096 → BitVec 8) (cs : EReal) : EReal :=
  (∑ k, cod x w k * (((c k).toInt : ℝ) : EReal)) * scl x w * cs

/-- The softplus of `v`. -/
def softplus (v : EReal) : EReal := max v 0 + Ideal.log1p (Ideal.exp (0 - FloatOps.absf (F := Ideal) (φ := .f32) v))

theorem c127 : Ideal.ofBits FTy.f32 1123942400#32 = ((127 : ℝ) : EReal) := by
  simp [Ideal.ofBits, Ideal.ieee]; rw [← EReal.coe_mul]; norm_num
theorem cm127 : Ideal.ofBits FTy.f32 3271426048#32 = ((-127 : ℝ) : EReal) := by
  simp [Ideal.ofBits, Ideal.ieee]; rw [← EReal.coe_mul]; norm_num
theorem c4096 : Ideal.ofBits FTy.f32 1166016512#32 = ((4096 : ℝ) : EReal) := by
  simp [Ideal.ofBits, Ideal.ieee]; rw [← EReal.coe_mul]; norm_num
theorem ceps : ∃ e : ℝ, 0 < e ∧ Ideal.ofBits FTy.f32 925353388#32 = (e : EReal) := by
  refine ⟨_, ?_, by simp [Ideal.ofBits, Ideal.ieee]; rfl⟩
  positivity

theorem sq_nonneg' (a : EReal) : 0 ≤ a * a := by
  rcases le_total 0 a with h | h
  · exact mul_nonneg h h
  · have := EReal.mul_nonneg_iff (a := a) (b := a)
    exact this.mpr (Or.inr ⟨h, h⟩)

theorem meanSq_pos (x : Fin 4096 → EReal) : 0 < meanSq x := by
  obtain ⟨e, he, e1⟩ := ceps
  unfold meanSq
  rw [e1, c4096, Ideal.div_coe (by norm_num)]
  have h : (0 : EReal) ≤ (∑ j, x j * x j) * ((1 / 4096 : ℝ) : EReal) :=
    mul_nonneg (Finset.sum_nonneg fun j _ => sq_nonneg' _) (by exact_mod_cast (by norm_num : (0 : ℝ) ≤ 1 / 4096))
  calc (0 : EReal) < (e : EReal) := by exact_mod_cast he
    _ = 0 + (e : EReal) := (zero_add _).symm
    _ ≤ _ := add_le_add_left h _

theorem sqrt_ne (x : Fin 4096 → EReal) : Ideal.sqrt (meanSq x) ≠ 0 := by
  have h := meanSq_pos x
  induction hm : meanSq x using EReal.rec with
  | bot => rw [hm] at h; exact absurd h (by simp)
  | top => show (⊤ : EReal) ≠ 0; simp
  | coe r =>
    rw [hm] at h
    have hr : 0 < r := by exact_mod_cast h
    have : (Ideal.sqrt (r : EReal)) = ((Real.sqrt r : ℝ) : EReal) := by
      show (if r < 0 then (⊥ : EReal) else (Real.sqrt r : EReal)) = _
      rw [if_neg (not_lt.mpr hr.le)]
    rw [this]
    exact_mod_cast (Real.sqrt_pos.mpr hr).ne'

/-- Multiplying by the reciprocal root is dividing by the root. -/
theorem recip (x : Fin 4096 → EReal) (a : EReal) : a * Ideal.div 1 (Ideal.sqrt (meanSq x)) = Ideal.div a (Ideal.sqrt (meanSq x)) := by
  unfold Ideal.div
  rw [if_neg (sqrt_ne x), if_neg (sqrt_ne x), one_mul]

/-- A code is an integer within 127. -/
theorem cod_int (x w : Fin 4096 → EReal) (k : Fin 4096) : ∃ n : ℤ, -127 ≤ n ∧ n ≤ 127 ∧ cod x w k = ((n : ℝ) : EReal) := by
  unfold cod
  rw [c127, cm127]
  generalize Ideal.div (nrm x w k) (scl x w) = v
  induction v using EReal.rec with
  | bot => exact ⟨-127, by norm_num, by norm_num, by rw [Ideal.liftRound_bot, max_eq_left bot_le, min_eq_right (by exact_mod_cast (by norm_num : (-127 : ℝ) ≤ 127))]; norm_num⟩
  | top => exact ⟨127, by norm_num, by norm_num, by rw [Ideal.liftRound_top, max_eq_right le_top, min_eq_left le_top]; norm_num⟩
  | coe r =>
    rw [Ideal.liftRound_coe]
    refine ⟨min 127 (max (-127) (Ideal.roundHalfEven r)), by omega, by omega, ?_⟩
    push_cast
    rfl

/-- A code made an eight-bit integer and read back is the code. -/
theorem cod_round (x w : Fin 4096 → EReal) (k : Fin 4096) : (((Ideal.fptosi 8 (cod x w k)).toInt : ℝ) : EReal) = cod x w k := by
  obtain ⟨n, h1, h2, e⟩ := cod_int x w k
  rw [e]
  unfold Ideal.fptosi
  have : Ideal.toIntClamped (-(2 ^ (8 - 1) : Nat)) ((2 ^ (8 - 1) : Nat) - 1) ((n : ℝ) : EReal) = n := by
    show max (-(2 ^ (8 - 1) : Nat) : ℤ) (min (((2 ^ (8 - 1) : Nat) : ℤ) - 1) (if 0 ≤ (n : ℝ) then ⌊(n : ℝ)⌋ else ⌈(n : ℝ)⌉)) = n
    rw [Int.floor_intCast, Int.ceil_intCast, ite_self]
    norm_num
    omega
  rw [this, BitVec.toInt_ofInt]
  congr 2
  rw [Int.bmod_def]
  norm_num
  omega

attribute [irreducible] meanSq nrm amax scl cod

/-- The argument's row `r` of 960, from its batch and its position. -/
def xrow (x : Vec Ideal ⟨3, ![40, 24, 4096]⟩ .bf16) (r : Fin 960) : Fin 4096 → EReal :=
  fun j => x (ix3 (⟨r.val / 24, by omega⟩ : Fin 40) (⟨r.val % 24, by omega⟩ : Fin 24) j)

def wrow (w : Vec Ideal ⟨1, ![4096]⟩ .f32) : Fin 4096 → EReal := fun j => w (ix1 j)

/-- The projection at row `r` and column `q` of all 4640. -/
def projG (x : Vec Ideal ⟨3, ![40, 24, 4096]⟩ .bf16) (nw : Vec Ideal ⟨1, ![4096]⟩ .f32) (w : Vec Ideal ⟨2, ![4096, 4640]⟩ .i8)
    (ws : Vec Ideal ⟨1, ![4640]⟩ .f32) (r : Fin 960) (q : Fin 4640) : EReal :=
  dotRow (xrow x r) (wrow nw) (fun k => w (ix2 k q)) (ws (ix1 q))

/-- The time step at row `r` and head `h`. -/
def dtG (x : Vec Ideal ⟨3, ![40, 24, 4096]⟩ .bf16) (nw : Vec Ideal ⟨1, ![4096]⟩ .f32) (w : Vec Ideal ⟨2, ![4096, 4640]⟩ .i8)
    (ws : Vec Ideal ⟨1, ![4640]⟩ .f32) (b : Vec Ideal ⟨1, ![32]⟩ .f32) (r : Fin 960) (h : Fin 32) : EReal :=
  softplus (projG x nw w ws r (⟨4608 + h.val, by omega⟩ : Fin 4640) + b (ix1 h))

/-- The code of batch `b`, position `s`, element `k`. -/
def ucG (x : Vec Ideal ⟨3, ![40, 24, 4096]⟩ .bf16) (nw : Vec Ideal ⟨1, ![4096]⟩ .f32) (b : Fin 40) (s : Fin 24) (k : Fin 4096) : BitVec 8 :=
  Ideal.fptosi 8 (cod (fun j => x (ix3 b s j)) (wrow nw) k)

/-- The scale of batch `b`, position `s`. -/
def usG (x : Vec Ideal ⟨3, ![40, 24, 4096]⟩ .bf16) (nw : Vec Ideal ⟨1, ![4096]⟩ .f32) (b : Fin 40) (s : Fin 24) : EReal :=
  scl (fun j => x (ix3 b s j)) (wrow nw)

attribute [irreducible] dotRow softplus projG dtG ucG usG

end Cert.InMath

end
-- ==== Proof.InIdLoop.lean ====
/- The loop of the replay's row loads, for the certificate of `InProjIdeal`: each trip reads seven row numbers of the table
   `acc_idx` and loads the rows of `prev_b_codes` that they name, which are inside the array because every number of the
   table is below 24 (`Rows`). Nothing is stated of the rows copied. -/
module

public import proofs.«01_k».proof.Proof.Gen.InProjIdeal.Skeleton
public import proofs.«01_k».proof.Proof.Gen.InProjIdeal.Loops
public import proofs.«01_k».proof.Proof.Gen.InProjIdeal.Frame

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Every number of the table names a row: it is below 24. -/
abbrev Rows (x : Vec F S40x7 .i32) : Prop := ∀ y, BitVec.toNat (w := 32) (x y) < 24

/-- Row `w` of block `k` is inside the array, for each of the seven rows that a trip reads. -/
theorem off14_lt (k : Fin k0_t2_loop.trips) (w : BitVec 32) (hw : w.toNat < 24) :
    ∀ a, (k0_off14 k w) a + S1x1x2x128.size a ≤ S40x24x2x128.size a := by
  have hk : k.val < 40 := k.isLt
  intro a
  fin_cases a <;> simp [k0_off14, Scalar.indexCast, Scf.iv] <;> omega

/-- A word read off the table is below 24. -/
theorem word_lt (arg1 : Memref sig .tc .smem S40x7 .i32) (harg1 : arg1.IsWhole) (x : Vec F S40x7 .i32) (hx : Rows x)
    (r : LoadRect S40x7) (j : r.shape.Idx) :
    BitVec.toNat (w := 32) (View.readAt (Elt F) arg1.view r (harg1.unread x) j) < 24 := by
  rw [View.readAt_apply, Memref.IsWhole.read_unread]; exact hx _

variable
  (arg1 : Memref sig .tc .smem S40x7 .i32) (harg1 : arg1.IsWhole)
  (arg2 : Memref sig .tc .smem S40 .i32) (harg2 : arg2.IsWhole)
  (arg3 : Memref sig .tc .vmem S960x4096 .bf16) (harg3 : arg3.IsWhole)
  (arg4 : Memref sig .tc .vmem S1x4096 .f32) (harg4 : arg4.IsWhole)
  (arg5 : Memref sig .tc .vmem S4096x512 .i8) (harg5 : arg5.IsWhole)
  (arg6 : Memref sig .tc .vmem S1x512 .f32) (harg6 : arg6.IsWhole)
  (arg7 : Memref sig .tc .vmem S1x32 .f32) (harg7 : arg7.IsWhole)
  (arg8 : Memref sig .tc .vmem S1x32 .f32) (harg8 : arg8.IsWhole)
  (arg9 : Memref sig .tc .vmem S4x2048x128 .fp8e4m3) (harg9 : arg9.IsWhole)
  (arg10 : Memref sig .tc .vmem S4x32x64 .f32) (harg10 : arg10.IsWhole)
  (arg11 : Memref sig .tc .vmem S40x24x2048 .i8) (harg11 : arg11.IsWhole)
  (arg12 : Memref sig .tc .vmem S40x24x32 .f32) (harg12 : arg12.IsWhole)
  (arg13 : Memref sig .tc .vmem S40x24x2x128 .i8) (harg13 : arg13.IsWhole)
  (arg14 : Memref sig .tc .vmem S40x24x2 .f32) (harg14 : arg14.IsWhole)
  (arg15 : Memref sig .tc .vmem S40x24x32 .f32) (harg15 : arg15.IsWhole)
  (arg16 : Memref sig .tc .vmem S960x512 .f32) (harg16 : arg16.IsWhole)
  (arg17 : Memref sig .tc .vmem S960x512 .bf16) (harg17 : arg17.IsWhole)
  (arg18 : Memref sig .tc .vmem S960x32 .f32) (harg18 : arg18.IsWhole)
  (arg19 : Memref sig .tc .vmem S4x24x4096 .i8) (harg19 : arg19.IsWhole)
  (arg20 : Memref sig .tc .vmem S40x24 .f32) (harg20 : arg20.IsWhole)
  (arg21 : Memref sig .tc .vmem S4x2048x128 .fp8e4m3) (harg21 : arg21.IsWhole)
  (arg22 : Memref sig .tc .vmem S4x32x64 .f32) (harg22 : arg22.IsWhole)
  (arg23 : Memref sig .tc .vmem S4x16x128 .f32) (harg23 : arg23.IsWhole)
  (arg24 : Memref sig .tc .vmem S960x4096 .bf16) (harg24 : arg24.IsWhole)
  (arg25 : Memref sig .tc .vmem S960x128 .f32) (harg25 : arg25.IsWhole)
  (arg26 : Memref sig .tc .vmem S320x2048 .f32) (harg26 : arg26.IsWhole)
  (arg27 : Memref sig .tc .vmem S2x320x128 .f32) (harg27 : arg27.IsWhole)

set_option warn.classDefReducibility false in
set_option maxHeartbeats 2000000 in
/-- The loop by its invariant: the table and the codes as they were, the scratch at some contents. -/
@[sl_loop] def loopInv_k0_t2 (𝒱 : Variants) (c : Dev nD) (bd : Option 𝒱.V) (E : Set ℕ) (i : grid0.Coords) (k0_h1 : k0_cond1 i = 1#1)
    (x0 : {x : Vec F S40x7 .i32 // Rows x}) (X_arg13 : BufTy.Contents (Elt F) arg13.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 where
  inv := fun _ _ => iprop((arg1.view.loc (c : Thread nD τ) ↦[arg1.view.set]{fullShare} harg1.unread x0.1)
    ∗ (arg13.view.loc (c : Thread nD τ) ↦[arg13.view.set]{fullShare} X_arg13)
    ∗ (∃ f, arg27.view.loc (c : Thread nD τ) ↦[arg27.view.set]{fullShare} f))
  step k acc := by
    have hk : k.val < 40 := k.isLt
    iintro ⟨H1, H13, ⟨%f27, H27⟩⟩
    unfold k0_t2_body
    simp only [k0_part20_eq_skeleton, k0_part21_eq_skeleton, k0_part22_eq_skeleton, k0_part23_eq_skeleton]
    unfold k0_part20_skel k0_part21_skel k0_part22_skel k0_part23_skel
    sl_exec (disch := (intro _; apply off14_lt; exact word_lt arg1 harg1 x0.1 x0.2 _ _))
    sl_step
    isplitl [H1]; · iexact H1
    isplitl [H13]; · iexact H13
    iexists _; iexact H27

end Cert.InProjIdeal.Hand

end
-- ==== Proof.InIdBase.lean ====
/- The body's three conditions in closed form over the grid's ten points, each window's buffer at a point, and the
   scratch buffers, for the certificate of `InProjIdeal`. -/
module

public import proofs.«01_k».proof.Proof.InIdLoop

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 9 — decided over the grid. -/
theorem hcond0_1 : ∀ t : Fin cfg0.N, cond0_1 (grid0.coords t) ↔ t.val < 9 :=
  (by decide +kernel : ∀ t : Fin grid0.N, cond0_1 (grid0.coords t) ↔ t.val < 9)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 9)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Each window's current staging memref at point `t`, spelled as the pipeline passes it (`bodyAt0`), and its wholeness. -/
abbrev ms0_0 (t : Fin cfg0.N) : Memref sig .tc .smem S40x7 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S40 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S960x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x32x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S40x24x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S40x24x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S40x24x2x128 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S40x24x2 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S40x24x32 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S960x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S960x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S960x32 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S4x24x4096 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S40x24 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S4x2048x128 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x32x64 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S4x16x128 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S960x4096 .bf16 := Memref.whole cc0_scratch0
abbrev scM0_1 : Memref sig .tc .vmem S960x128 .f32 := Memref.whole cc0_scratch1
abbrev scM0_2 : Memref sig .tc .vmem S320x2048 .f32 := Memref.whole cc0_scratch2
abbrev scM0_3 : Memref sig .tc .vmem S2x320x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.InProjIdeal.Hand

end
-- ==== Proof.InIdPay.lean ====
/- The values the body of `InProjIdeal` computes: a row's codes and scale, and a block of the projection. -/
module

public import proofs.«01_k».proof.Proof.InMath
public import proofs.«01_k».proof.Proof.InIdBase
public import Idealize.ShloMosaic.Lib.Pointwise
public import Idealize.ShloMosaic.Lib.Pipeline.Value
public import Idealize.ShloMosaic.Lib.Pipeline.ReadBack
public import Idealize.ShloMosaic.Lib.Pipeline.ValueKit
public import Idealize.ShloMosaic.Lib.Tactic

@[expose] public section

set_option maxRecDepth 16384

noncomputable section

namespace Cert.InProjIdeal.Hand

open Cert.InProjIdeal Cert.InProjIdeal.Gen Cert.InMath
open Idealize.ShloMosaic Idealize.ShloMosaic.TcCoe Idealize.SL.Sem
open Idealize.ShloMosaic.Pipeline (Dat)

/-- Row `r` of the 960, and the weights of the norm. -/
def brow (x : Vec Ideal S960x4096 .bf16) (r : Fin 960) : Fin 4096 → EReal := fun j => x (ix2 r j)
def nrow (w : Vec Ideal S1x4096 .f32) : Fin 4096 → EReal := fun j => w (ix2 (0 : Fin 1) j)

/-- The codes and the scales of the 960 rows. -/
def scU (x : Vec Ideal S960x4096 .bf16) (w : Vec Ideal S1x4096 .f32) : Vec Ideal S960x4096 .bf16 := fun y => cod (brow x (y 0)) (nrow w) (y 1)
def scS (x : Vec Ideal S960x4096 .bf16) (w : Vec Ideal S1x4096 .f32) : Vec Ideal S960x128 .f32 := fun y => scl (brow x (y 0)) (nrow w)

/-- A block of the projection: the codes' product with the weights', times the row's scale and the column's. -/
def blkP (u : Vec Ideal S960x4096 .bf16) (s : Vec Ideal S960x128 .f32) (w : Vec Ideal S4096x512 .i8) (ws : Vec Ideal S1x512 .f32) : Vec Ideal S960x512 .f32 :=
  fun y => (∑ k : Fin 4096, (u (ix2 (y 0) k) : EReal) * (((w (ix2 k (y 1))).toInt : ℝ) : EReal))
    * s (ix2 (y 0) (⟨(y 1).val % 128, Nat.mod_lt _ (by decide)⟩ : Fin 128)) * ws (ix2 (0 : Fin 1) (y 1))

theorem hz2 : (![0, 0] : Fin 2 → Nat) = fun _ => 0 := funext fun a => by fin_cases a <;> rfl

theorem emb_rows (o n w : Nat) (inb : ∀ a, (![o, 0] : Fin 2 → Nat) a + (![n, w] : Fin 2 → Nat) a ≤ (⟨2, ![960, w]⟩ : Shape).size a)
    (r : Fin n) (q : Fin w) (h : o + r.val < 960) :
    (Rect.unit (s := ⟨2, ![960, w]⟩) ![o, 0] ![n, w] inb).emb (ix2 r q) = ix2 (⟨o + r.val, h⟩ : Fin 960) q := by
  funext a
  apply Fin.ext
  match a with
  | ⟨0, _⟩ => show o + 1 * r.val = o + r.val; omega
  | ⟨1, _⟩ => show 0 + 1 * q.val = q.val; omega

/-! ## Sixteen rows -/

def stM (v : FVec Ideal S16x4096 .f32) : FVec Ideal S16 .f32 :=
  have v68 : FVec Ideal S16x4096 .f32 := absf v
  have v69 : FVec Ideal S16 .f32 := multiReduction .maximumf [1] S16 v68 0xFF800000#32 reduces_S16x4096_S16 (.inl rfl) rfl
  v69

def stS (v69 : FVec Ideal S16 .f32) : FVec Ideal S16x1 .f32 :=
  have v70 : FVec Ideal S16x1 .f32 := shapeCast S16x1 v69 shapeCasts_S16_S16x1
  have cst_27 : Ideal .f32 := Scalar.ofBits .f32 0x00000000#32
  have v71 : FVec Ideal S16x1 .f32 := broadcast S16x1 cst_27
  have v72 : IVec S16x1 1 := cmpf .oeq v70 v71
  have cst_28 : Ideal .f32 := Scalar.ofBits .f32 0x42FE0000#32
  have v73 : FVec Ideal S16x1 .f32 := broadcast S16x1 cst_28
  have v74 : FVec Ideal S16x1 .f32 := divf v70 v73
  have cst_29 : Ideal .f32 := Scalar.ofBits .f32 0x3F800000#32
  have v75 : FVec Ideal S16x1 .f32 := broadcast S16x1 cst_29
  have v76 : FVec Ideal S16x1 .f32 := select v72 v75 v74
  v76

def stC (v67 : FVec Ideal S16x4096 .f32) (v76 : FVec Ideal S16x1 .f32) : FVec Ideal S16x4096 .bf16 :=
  have v77 : FVec Ideal S16x4096 .f32 := broadcastTo S16x4096 v76 broadcasts_S16x1_S16x4096
  have v78 : FVec Ideal S16x4096 .f32 := divf v67 v77
  have v79 : FVec Ideal S16x4096 .f32 := roundeven v78
  have cst_30 : Ideal .f32 := Scalar.ofBits .f32 0xC2FE0000#32
  have cst_31 : Ideal .f32 := Scalar.ofBits .f32 0x42FE0000#32
  have v80 : FVec Ideal S16x4096 .f32 := broadcast S16x4096 cst_30
  have v81 : FVec Ideal S16x4096 .f32 := maximumf v80 v79
  have v82 : FVec Ideal S16x4096 .f32 := broadcast S16x4096 cst_31
  have v83 : FVec Ideal S16x4096 .f32 := minimumf v82 v81
  have v84 : FVec Ideal S16x4096 .bf16 := truncf .bf16 v83 bitsLt_bf16_f32
  have v89 : FVec Ideal S16x4096 .bf16 := shapeCast S16x4096 v84 shapeCasts_S16x4096_S16x4096
  v89

theorem pay77_eq (x : Vec Ideal S16x4096 .bf16) (w : Vec Ideal S1x4096 .f32) : k0_pay77 x w = stS (stM (k0_pay76 x w)) := rfl
theorem pay78_eq (x : Vec Ideal S16x4096 .bf16) (w : Vec Ideal S1x4096 .f32) : k0_pay78 x w = stC (k0_pay76 x w) (k0_pay77 x w) := rfl

theorem pay76_at (x : Vec Ideal S16x4096 .bf16) (w : Vec Ideal S1x4096 .f32) (r : Fin 16) (k : Fin 4096) :
    k0_pay76 x w (ix2 r k) = nrm (fun j => x (ix2 r j)) (nrow w) k := by
  unfold nrm
  rw [← recip]
  pointwise [k0_pay76, meanSq, nrow]

theorem stM_at (v : FVec Ideal S16x4096 .f32) (r : Fin 16) :
    stM v (ix1 r) = Finset.fold max (Ideal.ofBits FTy.f32 4286578688#32) (fun j => FloatOps.absf (F := Ideal) (φ := .f32) (v (ix2 r j))) Finset.univ := by
  pointwise [stM]

theorem stS_at (v : FVec Ideal S16 .f32) (r : Fin 16) (z : Fin 1) :
    stS v (ix2 r z) = if v (ix1 r) = 0 then 1 else Ideal.div (v (ix1 r)) (Ideal.ofBits FTy.f32 1123942400#32) := by
  pointwise [stS]

theorem stC_at (v : FVec Ideal S16x4096 .f32) (s : FVec Ideal S16x1 .f32) (r : Fin 16) (k : Fin 4096) :
    stC v s (ix2 r k) = min (Ideal.ofBits FTy.f32 1123942400#32) (max (Ideal.ofBits FTy.f32 3271426048#32)
    (Ideal.liftRound Ideal.roundHalfEven (Ideal.div (v (ix2 r k)) (s (ix2 r (0 : Fin 1)))))) := by
  pointwise [stC]

theorem pay77_at (x : Vec Ideal S16x4096 .bf16) (w : Vec Ideal S1x4096 .f32) (r : Fin 16) (z : Fin 1) :
    k0_pay77 x w (ix2 r z) = scl (fun j => x (ix2 r j)) (nrow w) := by
  rw [pay77_eq, stS_at, stM_at]
  unfold scl amax
  simp only [pay76_at]

theorem pay78_at (x : Vec Ideal S16x4096 .bf16) (w : Vec Ideal S1x4096 .f32) (r : Fin 16) (k : Fin 4096) :
    k0_pay78 x w (ix2 r k) = cod (fun j => x (ix2 r j)) (nrow w) k := by
  rw [pay78_eq, stC_at, pay76_at, pay77_at]
  unfold cod
  rfl

theorem pay1_at (v : FVec Ideal S16x1 .f32) (r : Fin 16) (q : Fin 128) : k0_pay1 v (ix2 r q) = v (ix2 r (0 : Fin 1)) := by
  pointwise [k0_pay1]

theorem ld_row (n : Nat) (hn : n < 60) (x : Vec Ideal S960x4096 .bf16) (inb) (r : Fin 16) :
    (fun j => (View.ld x (Rect.unit (s := S960x4096) ![16 * n, 0] S16x4096.size inb) : Vec Ideal S16x4096 .bf16) (ix2 r j)) = brow x ⟨16 * n + r.val, by omega⟩ := by
  funext j
  show x ((Rect.unit (s := S960x4096) ![16 * n, 0] S16x4096.size inb).emb (ix2 r j)) = _
  rw [show (Rect.unit (s := S960x4096) ![16 * n, 0] S16x4096.size inb).emb (ix2 r j) = ix2 (⟨16 * n + r.val, by omega⟩ : Fin 960) j from emb_rows (16 * n) 16 4096 inb r j (by omega)]
  rfl

theorem codes_rows (n : Nat) (hn : n < 60) (x : Vec Ideal S960x4096 .bf16) (w : Vec Ideal S1x4096 .f32) (inb1)
    (h : ∀ a, (![16 * n, 0] : Fin 2 → Nat) a + S16x4096.size a ≤ S960x4096.size a) (y : S16x4096.Idx) :
    k0_pay78 (F := Ideal) (View.ld x (Rect.unit (s := S960x4096) ![16 * n, 0] S16x4096.size inb1)) w y
    = scU x w ((Rect.unit (s := S960x4096) ![16 * n, 0] S16x4096.size h).emb y) := by
  idx_vars y
  rw [show (Rect.unit (s := S960x4096) ![16 * n, 0] S16x4096.size h).emb (ix2 y0 y1) = ix2 (⟨16 * n + y0.val, by omega⟩ : Fin 960) y1 from emb_rows (16 * n) 16 4096 h y0 y1 (by omega)]
  rw [pay78_at, ld_row n hn]
  rfl

theorem scales_rows (n : Nat) (hn : n < 60) (x : Vec Ideal S960x4096 .bf16) (w : Vec Ideal S1x4096 .f32) (inb1)
    (h : ∀ a, (![16 * n, 0] : Fin 2 → Nat) a + S16x128.size a ≤ S960x128.size a) (y : S16x128.Idx) :
    k0_pay1 (F := Ideal) (k0_pay77 (View.ld x (Rect.unit (s := S960x4096) ![16 * n, 0] S16x4096.size inb1)) w) y
    = scS x w ((Rect.unit (s := S960x128) ![16 * n, 0] S16x128.size h).emb y) := by
  idx_vars y
  rw [show (Rect.unit (s := S960x128) ![16 * n, 0] S16x128.size h).emb (ix2 y0 y1) = ix2 (⟨16 * n + y0.val, by omega⟩ : Fin 960) y1 from emb_rows (16 * n) 16 128 h y0 y1 (by omega)]
  rw [pay1_at, pay77_at, ld_row n hn]
  rfl

/-! ## A block's 240 rows -/

theorem pay85_at (u : Vec Ideal S240x4096 .bf16) (w : Vec Ideal S4096x512 .i8) (s : Vec Ideal S240x128 .f32) (ws : Vec Ideal S1x512 .f32) (r : Fin 240) (q : Fin 512) :
    k0_pay85 (F := Ideal) u w s ws (ix2 r q) = (∑ k : Fin 4096, (u (ix2 r k) : EReal) * (((w (ix2 k q)).toInt : ℝ) : EReal))
      * s (ix2 r (⟨q.val % 128, Nat.mod_lt _ (by decide)⟩ : Fin 128)) * ws (ix2 (0 : Fin 1) q) := by
  pointwise [k0_pay85]
  have hx : q.val < 512 := q.isLt
  refine congrArg₂ (· * ·) (congrArg₂ (· * ·) rfl ?_) rfl
  split_ifs <;> exact congrArg s (congrArg (ix2 _) (Fin.ext (by dsimp only; omega)))

theorem blk_rows (o : Nat) (ho : o + 240 ≤ 960) (u : Vec Ideal S960x4096 .bf16) (g : Vec Ideal S960x128 .f32) (w : Vec Ideal S4096x512 .i8) (ws : Vec Ideal S1x512 .f32)
    (inb1 inb2) (h : ∀ a, (![o, 0] : Fin 2 → Nat) a + S240x512.size a ≤ S960x512.size a) (y : S240x512.Idx) :
    k0_pay85 (F := Ideal) (View.ld u (Rect.unit (s := S960x4096) ![o, 0] S240x4096.size inb1)) w
      (View.ld g (Rect.unit (s := S960x128) ![o, 0] S240x128.size inb2)) ws y
    = blkP u g w ws ((Rect.unit (s := S960x512) ![o, 0] S240x512.size h).emb y) := by
  idx_vars y
  rw [show (Rect.unit (s := S960x512) ![o, 0] S240x512.size h).emb (ix2 y0 y1) = ix2 (⟨o + y0.val, by omega⟩ : Fin 960) y1 from emb_rows o 240 512 h y0 y1 (by omega)]
  rw [pay85_at]
  have e1 : ∀ k : Fin 4096, (View.ld u (Rect.unit (s := S960x4096) ![o, 0] S240x4096.size inb1) : Vec Ideal S240x4096 .bf16) (ix2 y0 k) = u (ix2 (⟨o + y0.val, by omega⟩ : Fin 960) k) :=
    fun k => congrArg u (emb_rows o 240 4096 inb1 y0 k (by omega))
  have e2 : ∀ k : Fin 128, (View.ld g (Rect.unit (s := S960x128) ![o, 0] S240x128.size inb2) : Vec Ideal S240x128 .f32) (ix2 y0 k) = g (ix2 (⟨o + y0.val, by omega⟩ : Fin 960) k) :=
    fun k => congrArg g (emb_rows o 240 128 inb2 y0 k (by omega))
  simp only [e1, e2]
  rfl

/-! ## The codes' blocks of four batches -/

/-- The codes of four batches of 24 rows, as eight-bit integers, from the scratch codes. -/
def blkU (u : Vec Ideal S960x4096 .bf16) (n : ℕ) : Vec Ideal S4x24x4096 .i8 :=
  fun y => Ideal.fptosi 8 (u (ix2 (⟨(96 * n + 24 * (y 0).val + (y 1).val) % 960, Nat.mod_lt _ (by decide)⟩ : Fin 960) (y 2)))

theorem pay87_at (v : Vec Ideal S48x4096 .bf16) (a : Fin 2) (s : Fin 24) (k : Fin 4096) :
    k0_pay87 (F := Ideal) v (ix3 a s k) = Ideal.fptosi 8 (v (ix2 (⟨24 * a.val + s.val, by omega⟩ : Fin 48) k)) := by
  pointwise [k0_pay87]
  exact congrArg (fun r : Fin 48 => Ideal.fptosi 8 (v (ix2 r k))) (Fin.ext (by show a.val * 24 + s.val = 24 * a.val + s.val; omega))

theorem pay348_eq : k0_pay348 (F := Ideal) = k0_pay87 := rfl
theorem pay594_eq : k0_pay594 (F := Ideal) = k0_pay87 := rfl
theorem pay848_eq : k0_pay848 (F := Ideal) = k0_pay87 := rfl

theorem off44_eq (i : grid0.Coords) : k0_off44 i 0#32 = ![96 * (i 0).val + 24 * 0, 0] ∧ k0_off44 i 2#32 = ![96 * (i 0).val + 24 * 2, 0] := by
  have h : (i 0).val < 10 := (i 0).isLt
  unfold k0_off44
  dsimp only
  generalize (i 0).val = n at h ⊢
  revert n
  decide +kernel
theorem off50_eq (i : grid0.Coords) : k0_off50 i 0#32 = ![96 * (i 0).val + 24 * 0, 0] ∧ k0_off50 i 2#32 = ![96 * (i 0).val + 24 * 2, 0] := by
  have h : (i 0).val < 10 := (i 0).isLt
  unfold k0_off50
  dsimp only
  generalize (i 0).val = n at h ⊢
  revert n
  decide +kernel

theorem blkU_rows (n p : Nat) (hn : n < 10) (hp : p ≤ 2) (u : Vec Ideal S960x4096 .bf16) (o : Fin 2 → Nat) (e : o = ![96 * n + 24 * p, 0]) (inb)
    (h : ∀ a, (![p, 0, 0] : Fin 3 → Nat) a + S2x24x4096.size a ≤ S4x24x4096.size a) (y : S2x24x4096.Idx) :
    k0_pay87 (F := Ideal) (View.ld u (Rect.unit (s := S960x4096) o S48x4096.size inb)) y
    = blkU u n ((Rect.unit (s := S4x24x4096) ![p, 0, 0] S2x24x4096.size h).emb y) := by
  subst e
  idx_vars y
  rw [show (Rect.unit (s := S4x24x4096) ![p, 0, 0] S2x24x4096.size h).emb (ix3 y0 y1 y2) = ix3 (⟨p + y0.val, by omega⟩ : Fin 4) y1 y2 from by
    funext a
    apply Fin.ext
    match a with
    | ⟨0, _⟩ => show p + 1 * y0.val = p + y0.val; omega
    | ⟨1, _⟩ => show 0 + 1 * y1.val = y1.val; omega
    | ⟨2, _⟩ => show 0 + 1 * y2.val = y2.val; omega]
  rw [pay87_at]
  unfold blkU
  refine congrArg (Ideal.fptosi 8) (congrArg u (funext fun a => Fin.ext ?_))
  match a with
  | ⟨0, _⟩ => show 96 * n + 24 * p + 1 * (24 * y0.val + y1.val) = (96 * n + 24 * (p + y0.val) + y1.val) % 960; omega
  | ⟨1, _⟩ => show 0 + 1 * y2.val = y2.val; omega

/-! ## The pieces the loop over the rows stores -/

theorem off41_eq : ∀ k : Fin k0_t3_loop.trips, k0_off41 k = ![16 * k.val, 0] := by decide +kernel
theorem off42_eq : ∀ k : Fin k0_t3_loop.trips, k0_off42 k = ![16 * k.val, 0] := by decide +kernel
theorem off43_eq : ∀ k : Fin k0_t3_loop.trips, k0_off43 k = ![16 * k.val, 0] := by decide +kernel

section
variable (𝒱 : Variants) (c : Dev nD) (bd : Option 𝒱.V) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc : k0_cond1 i = 1#1) (z : BitVec 32)

theorem trip_eq (X3 : BufTy.Contents (Elt Ideal) arg3.view.ty) (X4 : BufTy.Contents (Elt Ideal) arg4.view.ty) (k : Fin k0_t3_loop.trips) :
    tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc z X3 X4 k
      = ([⟨Rect.unit (s := S960x4096) (k0_off42 k) S16x4096.size (k0_off42_inb i k hc), k0_pay78 (View.readAt (Elt Ideal) arg3.view (Rect.unit (s := S960x4096) (k0_off41 k) S16x4096.size (k0_off41_inb i k hc)).toLoadRect X3) (View.readAt (Elt Ideal) arg4.view (Rect.unit (s := S1x4096) ![0, 0] S1x4096.size inb_S1x4096_S1x4096_0_0).toLoadRect X4)⟩],
         [⟨Rect.unit (s := S960x128) (k0_off43 k) S16x128.size (k0_off43_inb i k hc), k0_pay1 (k0_pay77 (View.readAt (Elt Ideal) arg3.view (Rect.unit (s := S960x4096) (k0_off41 k) S16x4096.size (k0_off41_inb i k hc)).toLoadRect X3) (View.readAt (Elt Ideal) arg4.view (Rect.unit (s := S1x4096) ![0, 0] S1x4096.size inb_S1x4096_S1x4096_0_0).toLoadRect X4))⟩]) := by
  unfold tripL_k0_t3 trip_k0_t3
  rfl

/-- Every piece is sixteen rows of the codes, or of the scales. -/
theorem pb_pieces (x : Vec Ideal S960x4096 .bf16) (w : Vec Ideal S1x4096 .f32) :
    ∀ n : ℕ, (∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc z (harg3.unread x) (harg4.unread w) n).1, ∀ y : p.1.shape.Idx, p.2 y = scU x w (p.1.emb y))
      ∧ (∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc z (harg3.unread x) (harg4.unread w) n).2, ∀ y : p.1.shape.Idx, p.2 y = scS x w (p.1.emb y)) := by
  intro n
  induction n with
  | zero => exact ⟨fun p hp => absurd hp List.not_mem_nil, fun p hp => absurd hp List.not_mem_nil⟩
  | succ n ih =>
    by_cases hn : n < k0_t3_loop.trips
    · rw [pb_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc z (harg3.unread x) (harg4.unread w) ⟨n, hn⟩, trip_eq]
      have hn' : n < 60 := Nat.lt_of_lt_of_le hn k0_t3_abs.2.1
      have e1 := off41_eq ⟨n, hn⟩
      have e2 := off42_eq ⟨n, hn⟩
      have e3 := off43_eq ⟨n, hn⟩
      simp only [View.readAt_eq_ld, harg3.read_unread, harg4.read_unread, View.ld_unit_zero (S := S1x4096) hz2]
      generalize k0_off41_inb i ⟨n, hn⟩ hc = w1
      generalize k0_off42_inb i ⟨n, hn⟩ hc = w2
      generalize k0_off43_inb i ⟨n, hn⟩ hc = w3
      generalize k0_off41 ⟨n, hn⟩ = o1 at w1 e1 ⊢
      generalize k0_off42 ⟨n, hn⟩ = o2 at w2 e2 ⊢
      generalize k0_off43 ⟨n, hn⟩ = o3 at w3 e3 ⊢
      subst e1; subst e2; subst e3
      constructor
      · intro p hp
        rw [List.mem_append, List.mem_singleton] at hp
        rcases hp with rfl | hp
        · intro y
          exact codes_rows n hn' x w w1 w2 y
        · exact ih.1 p hp
      · intro p hp
        rw [List.mem_append, List.mem_singleton] at hp
        rcases hp with rfl | hp
        · intro y
          dsimp only

          rw [scales_rows n hn' x w w1 w3 y]
        · exact ih.2 p hp
    · have e : pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc z (harg3.unread x) (harg4.unread w) (n + 1) = pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc z (harg3.unread x) (harg4.unread w) n := by
        rw [pb_k0_t3.eq_2]; unfold pb_k0_t3Step; rw [dif_neg hn]
      rw [e]
      exact ih

end

end Cert.InProjIdeal.Hand

end
-- ==== Proof.InIdDt.lean ====
/- The values of the step sizes the last point stores: the softplus of the projection's last 32 columns and the bias. -/
module

public import proofs.«01_k».proof.Proof.InIdPay

@[expose] public section

set_option maxRecDepth 16384

noncomputable section

namespace Cert.InProjIdeal.Hand

open Cert.InProjIdeal Cert.InProjIdeal.Gen Cert.InMath
open Idealize.ShloMosaic Idealize.ShloMosaic.TcCoe Idealize.SL.Sem
open Idealize.ShloMosaic.Pipeline (Dat)

/-- The step sizes, from the codes, the scales, the weights, their scales and the bias. -/
def blkT (u : Vec Ideal S960x4096 .bf16) (s : Vec Ideal S960x128 .f32) (w : Vec Ideal S4096x512 .i8) (ws : Vec Ideal S1x512 .f32) (b : Vec Ideal S1x32 .f32) : Vec Ideal S960x32 .f32 :=
  fun y => softplus ((∑ k : Fin 4096, (u (ix2 (y 0) k) : EReal) * (((w (ix2 k (⟨(y 1).val % 512, Nat.mod_lt _ (by decide)⟩ : Fin 512))).toInt : ℝ) : EReal))
    * s (ix2 (y 0) (⟨(y 1).val % 128, Nat.mod_lt _ (by decide)⟩ : Fin 128)) * ws (ix2 (0 : Fin 1) (⟨(y 1).val % 512, Nat.mod_lt _ (by decide)⟩ : Fin 512)) + b (ix2 (0 : Fin 1) (y 1)))

theorem pay844_at (u : Vec Ideal S240x4096 .bf16) (w : Vec Ideal S4096x128 .i8) (s : Vec Ideal S240x32 .f32) (ws b : Vec Ideal S1x32 .f32) (r : Fin 240) (q : Fin 32) :
    k0_pay844 (F := Ideal) u w s ws b (ix2 r q) = (∑ k : Fin 4096, (u (ix2 r k) : EReal) * (((w (ix2 k (⟨q.val % 128, Nat.mod_lt _ (by decide)⟩ : Fin 128))).toInt : ℝ) : EReal))
      * s (ix2 r q) * ws (ix2 (0 : Fin 1) q) + b (ix2 (0 : Fin 1) q) := by
  have e : (⟨q.val % 128, Nat.mod_lt _ (by decide)⟩ : Fin 128) = ⟨q.val, by omega⟩ := Fin.ext (Nat.mod_eq_of_lt (by omega))
  rw [e]
  pointwise [k0_pay844]
  rfl

theorem pay593_eq (u : Vec Ideal S240x4096 .bf16) (w : Vec Ideal S4096x128 .i8) (s : Vec Ideal S240x32 .f32) (ws b : Vec Ideal S1x32 .f32) :
    k0_pay593 (F := Ideal) u w s ws b = k0_pay847 (k0_pay845 u w s ws b) (k0_pay846 u w s ws b) := rfl
theorem pay975_eq (u : Vec Ideal S240x4096 .bf16) (w : Vec Ideal S4096x128 .i8) (s : Vec Ideal S240x32 .f32) (ws b : Vec Ideal S1x32 .f32) :
    k0_pay975 (F := Ideal) u w s ws b = k0_pay847 (k0_pay845 u w s ws b) (k0_pay846 u w s ws b) := rfl
theorem pay721_eq (u : Vec Ideal S240x4096 .bf16) (w : Vec Ideal S4096x128 .i8) (s : Vec Ideal S240x32 .f32) (ws b : Vec Ideal S1x32 .f32) :
    k0_pay721 (F := Ideal) u (k0_pay720 w) (constant S240x128 .f32 0x00000000#32) s ws b = k0_pay847 (k0_pay845 u w s ws b) (k0_pay846 u w s ws b) := rfl

def stP (v : FVec Ideal S240x32 .f32) : FVec Ideal S240x32 .f32 :=
  have v1 : FVec Ideal S240x32 .f32 := broadcast S240x32 (Scalar.ofBits .f32 0x00000000#32)
  addf (maximumf v v1) (log1p (exp (subf v1 (absf v))))

theorem stP_at (v : FVec Ideal S240x32 .f32) (r : Fin 240) (q : Fin 32) : stP v (ix2 r q) = softplus (v (ix2 r q)) := by
  unfold softplus
  pointwise [stP]

theorem pay847_eq (u : Vec Ideal S240x4096 .bf16) (w : Vec Ideal S4096x128 .i8) (s : Vec Ideal S240x32 .f32) (ws b : Vec Ideal S1x32 .f32) :
    k0_pay847 (k0_pay845 u w s ws b) (k0_pay846 u w s ws b) = stP (k0_pay844 (F := Ideal) u w s ws b) := rfl

theorem dt_rows (o : Nat) (ho : o + 240 ≤ 960) (u : Vec Ideal S960x4096 .bf16) (g : Vec Ideal S960x128 .f32) (w : Vec Ideal S4096x512 .i8) (ws : Vec Ideal S1x512 .f32) (b : Vec Ideal S1x32 .f32)
    (inb1 inb2 inb3 inb4 inb5) (h : ∀ a, (![o, 0] : Fin 2 → Nat) a + S240x32.size a ≤ S960x32.size a) (y : S240x32.Idx) :
    k0_pay847 (F := Ideal)
      (k0_pay845 (View.ld u (Rect.unit (s := S960x4096) ![o, 0] S240x4096.size inb1)) (View.ld w (Rect.unit (s := S4096x512) ![0, 0] S4096x128.size inb3))
        (View.ld g (Rect.unit (s := S960x128) ![o, 0] S240x32.size inb2)) (View.ld ws (Rect.unit (s := S1x512) ![0, 0] S1x32.size inb4)) (View.ld b (Rect.unit (s := S1x32) ![0, 0] S1x32.size inb5)))
      (k0_pay846 (View.ld u (Rect.unit (s := S960x4096) ![o, 0] S240x4096.size inb1)) (View.ld w (Rect.unit (s := S4096x512) ![0, 0] S4096x128.size inb3))
        (View.ld g (Rect.unit (s := S960x128) ![o, 0] S240x32.size inb2)) (View.ld ws (Rect.unit (s := S1x512) ![0, 0] S1x32.size inb4)) (View.ld b (Rect.unit (s := S1x32) ![0, 0] S1x32.size inb5))) y
    = blkT u g w ws b ((Rect.unit (s := S960x32) ![o, 0] S240x32.size h).emb y) := by
  idx_vars y
  rw [show (Rect.unit (s := S960x32) ![o, 0] S240x32.size h).emb (ix2 y0 y1) = ix2 (⟨o + y0.val, by omega⟩ : Fin 960) y1 from emb_rows o 240 32 h y0 y1 (by omega)]
  rw [pay847_eq, stP_at, pay844_at, View.ld_unit_zero (S := S1x32) hz2]
  unfold blkT
  refine congrArg softplus (congrArg₂ (· + ·) (congrArg₂ (· * ·) (congrArg₂ (· * ·) (Finset.sum_congr rfl fun k _ => congrArg₂ (· * ·) ?_ ?_) ?_) ?_) rfl)
  · exact congrArg u (emb_rows o 240 4096 inb1 y0 k (by omega))
  · refine congrArg (fun b : BitVec 8 => (((b.toInt : ℝ)) : EReal)) (congrArg w (funext fun a => Fin.ext ?_))
    match a with
    | ⟨0, _⟩ => show 0 + 1 * k.val = k.val; omega
    | ⟨1, _⟩ => show 0 + 1 * (y1.val % 128) = y1.val % 512; omega
  · refine congrArg g (funext fun a => Fin.ext ?_)
    match a with
    | ⟨0, _⟩ => show o + 1 * y0.val = o + y0.val; omega
    | ⟨1, _⟩ => show 0 + 1 * y1.val = y1.val % 128; omega
  · refine congrArg ws (funext fun a => Fin.ext ?_)
    match a with
    | ⟨0, _⟩ => show 0 + 1 * 0 = 0; rfl
    | ⟨1, _⟩ => show 0 + 1 * y1.val = y1.val % 512; omega

end Cert.InProjIdeal.Hand

end

end
-- ==== Proof.InIdRes.lean ====
/- The proof data of `InProjIdeal` at the ideal reading: what each buffer holds after each point, as the projection of
   the arguments, and the result arrays at the end. -/
module

public import proofs.«01_k».proof.Proof.InIdDt
public import Idealize.ShloMosaic.Lib.Claim

@[expose] public section

set_option maxRecDepth 16384

noncomputable section

namespace Cert.InProjIdeal.Hand

open Cert.InProjIdeal Cert.InProjIdeal.Gen Cert.InMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

abbrev X (c : Dev nD) : Vec Ideal S40x24x4096 .bf16 := m ((c : Thread nD τ).loc main_arg0)
abbrev NW (c : Dev nD) : Vec Ideal S4096 .f32 := m ((c : Thread nD τ).loc main_arg1)
abbrev W (c : Dev nD) : Vec Ideal S4096x4640 .i8 := m ((c : Thread nD τ).loc main_arg2)
abbrev WS (c : Dev nD) : Vec Ideal S4640 .f32 := m ((c : Thread nD τ).loc main_arg3)
abbrev B (c : Dev nD) : Vec Ideal S32 .f32 := m ((c : Thread nD τ).loc main_arg4)

/-- Which block each window reads or writes at each point. -/
theorem idx0 : ∀ t : Fin cfg0.N, win0_2.index t = ![0, 0] ∧ win0_3.index t = ![0, 0] ∧ win0_4.index t = ![0, t.val]
    ∧ win0_5.index t = ![0, t.val] ∧ win0_15.index t = ![0, min t.val 8] ∧ win0_16.index t = ![0, min (t.val - 4) 4] :=
  (by decide +kernel : ∀ t : Fin grid0.N, win0_2.index t = ![0, 0] ∧ win0_3.index t = ![0, 0] ∧ win0_4.index t = ![0, t.val]
    ∧ win0_5.index t = ![0, t.val] ∧ win0_15.index t = ![0, min t.val 8] ∧ win0_16.index t = ![0, min (t.val - 4) 4])

/-- The first nine blocks of the weights and of their scales lie inside the arrays. -/
theorem full4 : ∀ t : Fin cfg0.N, t.val < 9 → ∀ a, win0_4.xsize (grid0.coords t) a = S4096x512.size a :=
  (by decide +kernel : ∀ t : Fin grid0.N, t.val < 9 → ∀ a, win0_4.xsize (grid0.coords t) a = S4096x512.size a)
theorem full5 : ∀ t : Fin cfg0.N, t.val < 9 → ∀ a, win0_5.xsize (grid0.coords t) a = S1x512.size a :=
  (by decide +kernel : ∀ t : Fin grid0.N, t.val < 9 → ∀ a, win0_5.xsize (grid0.coords t) a = S1x512.size a)

/-- The last 32 weight columns end inside a block of 512: past the array the buffer holds what it held, `d`. -/
def X4 (c : Dev nD) (t : Fin cfg0.N) (d : Vec Ideal S4096x512 .i8) : Vec Ideal S4096x512 .i8 := win0_4.fill (grid0.coords t) d (iblk m c 4 t)

/-- The same of the weight scales. -/
def X5 (c : Dev nD) (t : Fin cfg0.N) (d : Vec Ideal S1x512 .f32) : Vec Ideal S1x512 .f32 := win0_5.fill (grid0.coords t) d (iblk m c 5 t)

/-! ## The blocks of the arguments -/

theorem blk2 (c : Dev nD) (t : Fin cfg0.N) (r : Fin 960) : brow (iblk m c 2 t) r = xrow (X m c) r := by
  obtain ⟨e0, e1, e2, e3, e4, e5⟩ := idx0 t
  funext j
  unfold brow xrow
  blk_point [iblk, V, e0]

theorem blk3 (c : Dev nD) (t : Fin cfg0.N) : nrow (iblk m c 3 t) = wrow (NW m c) := by
  obtain ⟨e0, e1, e2, e3, e4, e5⟩ := idx0 t
  funext j
  unfold nrow wrow
  blk_point [iblk, V, e1]

theorem x4_at (c : Dev nD) (t : Fin cfg0.N) (ht : t.val < 9) (d) (k : Fin 4096) (q : Fin 512) :
    X4 m c t d (ix2 k q) = W m c (ix2 k (⟨512 * t.val + q.val, by omega⟩ : Fin 4640)) := by
  have e := (idx0 t).2.2.1
  have hm : win0_4.moved (grid0.coords t) (ix2 k q) = true := (win0_4.moved_iff _ _).mpr fun a => by
    have h := full4 t ht a
    rw [h]; exact (ix2 k q a).isLt
  unfold X4 Window.fill
  rw [dif_pos hm]
  unfold iblk
  refine congrArg (W m c) (funext fun a => Fin.ext ?_)
  match a with
  | ⟨0, _⟩ => show win0_4.index t 0 * 4096 + 1 * k.val = k.val
              rw [e]; show 0 * 4096 + 1 * k.val = k.val; omega
  | ⟨1, _⟩ => show win0_4.index t 1 * 512 + 1 * q.val = 512 * t.val + q.val
              rw [e]; show t.val * 512 + 1 * q.val = _; omega

theorem v3_at (c : Dev nD) (q : Fin 4640) : (V m c main_v3 : S1x4640.Idx → EReal) (ix2 (0 : Fin 1) q) = WS m c (ix1 q) := by
  first | blk_point [V, hostOps0] | (unfold V; blk_point [hostOps0]) | (show shapeCast S1x4640 (m ((c : Thread nD τ).loc main_arg3) : Vec Ideal S4640 .f32) _ (ix2 (0 : Fin 1) q) = _; pointwise)

theorem x5_at (c : Dev nD) (t : Fin cfg0.N) (ht : t.val < 9) (d) (q : Fin 512) :
    X5 m c t d (ix2 (0 : Fin 1) q) = WS m c (ix1 (⟨512 * t.val + q.val, by omega⟩ : Fin 4640)) := by
  have e := (idx0 t).2.2.2.1
  have hm : win0_5.moved (grid0.coords t) (ix2 (0 : Fin 1) q) = true := (win0_5.moved_iff _ _).mpr fun a => by
    have h := full5 t ht a
    rw [h]; exact (ix2 (0 : Fin 1) q a).isLt
  unfold X5 Window.fill
  rw [dif_pos hm]
  unfold iblk
  refine Eq.trans (congrArg (V m c main_v3 : S1x4640.Idx → EReal) (funext fun a => Fin.ext ?_)) (v3_at m c _)
  match a with
  | ⟨0, _⟩ => show win0_5.index t 0 * 1 + 1 * 0 = 0
              rw [e]; rfl
  | ⟨1, _⟩ => show win0_5.index t 1 * 512 + 1 * q.val = 512 * t.val + q.val
              rw [e]; show t.val * 512 + 1 * q.val = _; omega

/-! ## The blocks of the result -/

/-- The codes and the scales the first point stores, of the arguments. -/
def scrU (c : Dev nD) : Vec Ideal S960x4096 .bf16 := fun y => cod (xrow (X m c) (y 0)) (wrow (NW m c)) (y 1)
def scrS (c : Dev nD) : Vec Ideal S960x128 .f32 := fun y => scl (xrow (X m c) (y 0)) (wrow (NW m c))

theorem scrU_eq (c : Dev nD) (t : Fin cfg0.N) : scU (iblk m c 2 t) (iblk m c 3 t) = scrU m c := by
  funext y; exact congrArg₂ (fun a b => cod a b (y 1)) (blk2 m c t (y 0)) (blk3 m c t)
theorem scrS_eq (c : Dev nD) (t : Fin cfg0.N) : scS (iblk m c 2 t) (iblk m c 3 t) = scrS m c := by
  funext y; exact congrArg₂ (fun a b => scl a b) (blk2 m c t (y 0)) (blk3 m c t)

/-- Block `n` of the projection, the last of the nine from there on. -/
def blkG (c : Dev nD) (n : ℕ) : S960x512.Idx → EReal := fun y =>
  projG (X m c) (NW m c) (W m c) (WS m c) (y 0) (⟨512 * min n 8 + (y 1).val, by have h : (y 1).val < 512 := (y 1).isLt; omega⟩ : Fin 4640)

theorem blk_eq (c : Dev nD) (t : Fin cfg0.N) (ht : t.val < 9) (d4) (d5) : blkP (scrU m c) (scrS m c) (X4 m c t d4) (X5 m c t d5) = blkG m c t.val := by
  funext y
  idx_vars y
  have e : (⟨512 * min t.val 8 + y1.val, by omega⟩ : Fin 4640) = ⟨512 * t.val + y1.val, by omega⟩ := Fin.ext (by show 512 * min t.val 8 + y1.val = 512 * t.val + y1.val; omega)
  unfold blkG
  refine Eq.trans ?_ (congrArg (projG (X m c) (NW m c) (W m c) (WS m c) y0) e).symm
  unfold projG dotRow blkP scrU scrS
  refine congrArg₂ (· * ·) (congrArg₂ (· * ·) (Finset.sum_congr rfl fun k _ => ?_) rfl) (x5_at m c t ht d5 y1)
  exact congrArg (fun b : BitVec 8 => cod (xrow (X m c) y0) (wrow (NW m c)) k * (((b.toInt : ℝ)) : EReal)) (x4_at m c t ht d4 k y1)

/-- The last block of the weights and of their scales has 32 columns inside the arrays. -/
theorem cut4 : ∀ t : Fin cfg0.N, t.val = 9 → win0_4.xsize (grid0.coords t) 0 = 4096 ∧ win0_4.xsize (grid0.coords t) 1 = 32 :=
  (by decide +kernel : ∀ t : Fin grid0.N, t.val = 9 → win0_4.xsize (grid0.coords t) 0 = 4096 ∧ win0_4.xsize (grid0.coords t) 1 = 32)
theorem cut5 : ∀ t : Fin cfg0.N, t.val = 9 → win0_5.xsize (grid0.coords t) 0 = 1 ∧ win0_5.xsize (grid0.coords t) 1 = 32 :=
  (by decide +kernel : ∀ t : Fin grid0.N, t.val = 9 → win0_5.xsize (grid0.coords t) 0 = 1 ∧ win0_5.xsize (grid0.coords t) 1 = 32)

theorem x4_last (c : Dev nD) (t : Fin cfg0.N) (ht : t.val = 9) (d) (k : Fin 4096) (q : Fin 512) (hq : q.val < 32) :
    X4 m c t d (ix2 k q) = W m c (ix2 k (⟨4608 + q.val, by omega⟩ : Fin 4640)) := by
  have e := (idx0 t).2.2.1
  have hm : win0_4.moved (grid0.coords t) (ix2 k q) = true := (win0_4.moved_iff _ _).mpr fun a => by
    match a with
    | ⟨0, _⟩ => show k.val < win0_4.xsize (grid0.coords t) 0
                rw [(cut4 t ht).1]; exact k.isLt
    | ⟨1, _⟩ => show q.val < win0_4.xsize (grid0.coords t) 1
                rw [(cut4 t ht).2]; exact hq
  unfold X4 Window.fill
  rw [dif_pos hm]
  unfold iblk
  refine congrArg (W m c) (funext fun a => Fin.ext ?_)
  match a with
  | ⟨0, _⟩ => show win0_4.index t 0 * 4096 + 1 * k.val = k.val
              rw [e]; show 0 * 4096 + 1 * k.val = k.val; omega
  | ⟨1, _⟩ => show win0_4.index t 1 * 512 + 1 * q.val = 4608 + q.val
              rw [e]; show t.val * 512 + 1 * q.val = _; omega

theorem x5_last (c : Dev nD) (t : Fin cfg0.N) (ht : t.val = 9) (d) (q : Fin 512) (hq : q.val < 32) :
    X5 m c t d (ix2 (0 : Fin 1) q) = WS m c (ix1 (⟨4608 + q.val, by omega⟩ : Fin 4640)) := by
  have e := (idx0 t).2.2.2.1
  have hm : win0_5.moved (grid0.coords t) (ix2 (0 : Fin 1) q) = true := (win0_5.moved_iff _ _).mpr fun a => by
    match a with
    | ⟨0, _⟩ => show 0 < win0_5.xsize (grid0.coords t) 0
                rw [(cut5 t ht).1]; exact Nat.one_pos
    | ⟨1, _⟩ => show q.val < win0_5.xsize (grid0.coords t) 1
                rw [(cut5 t ht).2]; exact hq
  unfold X5 Window.fill
  rw [dif_pos hm]
  unfold iblk
  refine Eq.trans (congrArg (V m c main_v3 : S1x4640.Idx → EReal) (funext fun a => Fin.ext ?_)) (v3_at m c _)
  match a with
  | ⟨0, _⟩ => show win0_5.index t 0 * 1 + 1 * 0 = 0
              rw [e]; rfl
  | ⟨1, _⟩ => show win0_5.index t 1 * 512 + 1 * q.val = 4608 + q.val
              rw [e]; show t.val * 512 + 1 * q.val = _; omega

theorem idx6 : ∀ t : Fin cfg0.N, win0_6.index t = ![0, 0] :=
  (by decide +kernel : ∀ t : Fin grid0.N, win0_6.index t = ![0, 0])
theorem blk6 (c : Dev nD) (t : Fin cfg0.N) (q : Fin 32) : (iblk m c 6 t : Vec Ideal S1x32 .f32) (ix2 (0 : Fin 1) q) = B m c (ix1 q) := by
  have e := idx6 t
  blk_point [iblk, V, e]

/-- The step sizes. -/
def dtR (c : Dev nD) : S960x32.Idx → EReal := fun y => dtG (X m c) (NW m c) (W m c) (WS m c) (B m c) (y 0) (y 1)

theorem blkT_eq (c : Dev nD) (t : Fin cfg0.N) (ht : t.val = 9) (d4) (d5) :
    blkT (scrU m c) (scrS m c) (X4 m c t d4) (X5 m c t d5) (iblk m c 6 t) = dtR m c := by
  funext y
  idx_vars y
  have e : (⟨y1.val % 512, Nat.mod_lt _ (by decide)⟩ : Fin 512) = ⟨y1.val, by omega⟩ := Fin.ext (Nat.mod_eq_of_lt (by omega))
  have h4 : ∀ k, X4 m c t d4 (ix2 k (⟨y1.val % 512, Nat.mod_lt _ (by decide)⟩ : Fin 512)) = W m c (ix2 k (⟨4608 + y1.val, by omega⟩ : Fin 4640)) := fun k => by
    rw [e]; exact x4_last m c t ht d4 k _ y1.isLt
  have h5 : X5 m c t d5 (ix2 (0 : Fin 1) (⟨y1.val % 512, Nat.mod_lt _ (by decide)⟩ : Fin 512)) = WS m c (ix1 (⟨4608 + y1.val, by omega⟩ : Fin 4640)) := by
    rw [e]; exact x5_last m c t ht d5 _ y1.isLt
  unfold dtR dtG projG dotRow blkT scrU scrS
  refine congrArg softplus (congrArg₂ (· + ·) (congrArg₂ (· * ·) (congrArg₂ (· * ·) (Finset.sum_congr rfl fun k _ => ?_) rfl) h5) (blk6 m c t y1))
  exact congrArg (fun b : BitVec 8 => cod (xrow (X m c) y0) (wrow (NW m c)) k * (((b.toInt : ℝ)) : EReal)) (h4 k)

/-- Block `n` of the codes: batches `4 n` to `4 n + 3`. -/
def uG (c : Dev nD) (n : ℕ) : S4x24x4096.Idx → BitVec 8 := fun y =>
  ucG (X m c) (NW m c) (⟨(4 * n + (y 0).val) % 40, Nat.mod_lt _ (by decide)⟩ : Fin 40) (y 1) (y 2)

theorem blkU_eq (c : Dev nD) (n : ℕ) (hn : n < 10) : blkU (scrU m c) n = uG m c n := by
  funext y
  idx_vars y
  unfold blkU uG scrU ucG
  refine congrArg (fun x => Ideal.fptosi 8 (cod x (wrow (NW m c)) y2)) ?_
  funext j
  unfold xrow
  have e1 : ((96 * n + 24 * y0.val + y1.val) % 960) / 24 = (4 * n + y0.val) % 40 := by omega
  have e2 : ((96 * n + 24 * y0.val + y1.val) % 960) % 24 = y1.val := by omega
  exact congrArg (X m c) (congrArg₂ (fun a b => ix3 a b j) (Fin.ext e1) (Fin.ext e2))

/-- The grid's one coordinate is the point's number. -/
theorem coord0 : ∀ t : Fin cfg0.N, (grid0.coords t 0).val = t.val :=
  (by decide +kernel : ∀ t : Fin grid0.N, (grid0.coords t 0).val = t.val)

/-! ## The proof data -/

/-- The windows nothing is stated of: the outputs past the projection, its narrow copy, the step sizes and the codes. -/
def forgets0 : Fin 23 → Bool := fun w => Nat.ble 19 w.val

/-- Between the points, after the first, the scratch holds the codes and the scales. -/
def PhiS (c : Dev nD) (n : ℕ) : sProp 𝕄 :=
  if n = 0 ∨ 10 ≤ n then Pipeline.ΦA spec0 c
  else iprop(iprop(owns (c : Thread nD τ) scM0_0 fullShare (scrU m c) ∗ owns (c : Thread nD τ) scM0_1 fullShare (scrS m c) ∗ (∃ d, owns (c : Thread nD τ) scM0_2 fullShare d) ∗ (∃ d, owns (c : Thread nD τ) scM0_3 fullShare d)) ∗ (∃ r, prngReg c r))

theorem PhiS_pos (c : Dev nD) (n : ℕ) (h : n ≠ 0) (h' : n < 10) : PhiS m c n = iprop(iprop(owns (c : Thread nD τ) scM0_0 fullShare (scrU m c) ∗ owns (c : Thread nD τ) scM0_1 fullShare (scrS m c) ∗ (∃ d, owns (c : Thread nD τ) scM0_2 fullShare d) ∗ (∃ d, owns (c : Thread nD τ) scM0_3 fullShare d)) ∗ (∃ r, prngReg c r)) := by
  unfold PhiS; rw [if_neg (by omega)]
theorem PhiS_end (c : Dev nD) (n : ℕ) (h : n = 0 ∨ 10 ≤ n) : PhiS m c n = Pipeline.ΦA spec0 c := by
  unfold PhiS; rw [if_pos h]

/-- The arrays as the region finds them; each input's buffer is left at its block, the projection's and its narrow
    copy's at the block of the point, the step sizes' at all of them, the codes' at the point's four batches. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X4 m c t (fun _ => (0#8 : BitVec 8))
    | ⟨5, _⟩ => X5 m c t (fun _ => (0 : EReal))
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => blkG m c t.val
    | ⟨16, _⟩ => blkG m c t.val
    | ⟨17, _⟩ => dtR m c
    | ⟨18, _⟩ => uG m c t.val
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ n := PhiS m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  before0_12_of m (dats m 0 c) (A_eq m c 12) (after0_12 m c) t d
theorem after0_13 (c : Dev nD) (t : Fin cfg0.N) : (dats m 0 c).after 13 t = iblk m c 13 t := by dsimp only [dats]
theorem before0_13 (c : Dev nD) (t : Fin cfg0.N) (d) : (dats m 0 c).before 13 t d = iblk m c 13 t :=
  before0_13_of m (dats m 0 c) (A_eq m c 13) (after0_13 m c) t d
theorem after0_14 (c : Dev nD) (t : Fin cfg0.N) : (dats m 0 c).after 14 t = iblk m c 14 t := by dsimp only [dats]
theorem before0_14 (c : Dev nD) (t : Fin cfg0.N) (d) : (dats m 0 c).before 14 t d = iblk m c 14 t :=
  before0_14_of m (dats m 0 c) (A_eq m c 14) (after0_14 m c) t d

/-- The weights and their scales are fetched at every point. -/
theorem fetch4 : ∀ t : Fin cfg0.N, (cfg0.win 4).fetch t = true :=
  (by decide +kernel : ∀ t : Fin grid0.N, win0_4.fetch t = true)
theorem fetch5 : ∀ t : Fin cfg0.N, (cfg0.win 5).fetch t = true :=
  (by decide +kernel : ∀ t : Fin grid0.N, win0_5.fetch t = true)

theorem before0_4 (c : Dev nD) (t : Fin cfg0.N) (d) : (dats m 0 c).before 4 t d = X4 m c t d := by
  unfold Dat.before; rw [if_pos (fetch4 t)]; rfl
theorem before0_5 (c : Dev nD) (t : Fin cfg0.N) (d) : (dats m 0 c).before 5 t d = X5 m c t d := by
  unfold Dat.before; rw [if_pos (fetch5 t)]; rfl

/-- What the body leaves of the weights is their block, past the array anything. -/
theorem left4 (c : Dev nD) (t : Fin cfg0.N) (d) :
    win0_4.fill (grid0.coords t) d (win0_4.cut (grid0.coords t) ((dats m 0 c).after 4 t)) = X4 m c t d := by
  rw [show (dats m 0 c).after 4 t = X4 m c t (fun _ => (0#8 : BitVec 8)) from by dsimp only [dats]]
  unfold X4; rw [Window.cut_fill]
theorem left5 (c : Dev nD) (t : Fin cfg0.N) (d) :
    win0_5.fill (grid0.coords t) d (win0_5.cut (grid0.coords t) ((dats m 0 c).after 5 t)) = X5 m c t d := by
  rw [show (dats m 0 c).after 5 t = X5 m c t (fun _ => (0 : EReal)) from by dsimp only [dats]]
  unfold X5; rw [Window.cut_fill]

theorem back4 (c : Dev nD) (t : Fin cfg0.N) : (iprop(∃ d, owns (c : Thread nD τ) (ms0_4 t) fullShare (X4 m c t d)) : sProp 𝕄)
    ⊢ iprop(∃ d, owns (c : Thread nD τ) (ms0_4 t) fullShare (win0_4.fill (grid0.coords t) d (win0_4.cut (grid0.coords t) ((dats m 0 c).after 4 t)))) := by
  iintro ⟨%d, H⟩
  iexists d
  rw [left4]
  iexact H
theorem back5 (c : Dev nD) (t : Fin cfg0.N) : (iprop(∃ d, owns (c : Thread nD τ) (ms0_5 t) fullShare (X5 m c t d)) : sProp 𝕄)
    ⊢ iprop(∃ d, owns (c : Thread nD τ) (ms0_5 t) fullShare (win0_5.fill (grid0.coords t) d (win0_5.cut (grid0.coords t) ((dats m 0 c).after 5 t)))) := by
  iintro ⟨%d, H⟩
  iexists d
  rw [left5]
  iexact H

theorem after0_15 (c : Dev nD) (t : Fin cfg0.N) : (dats m 0 c).after 15 t = blkG m c t.val := by dsimp only [dats]
theorem after0_16 (c : Dev nD) (t : Fin cfg0.N) : (dats m 0 c).after 16 t = blkG m c t.val := by dsimp only [dats]

theorem after0_18 (c : Dev nD) (t : Fin cfg0.N) : (dats m 0 c).after 18 t = uG m c t.val := by dsimp only [dats]

/-- Every point stores its block of the codes, and it is written back. -/
theorem flush18 : ∀ t : Fin cfg0.N, (cfg0.win 18).flush t = true :=
  (by decide +kernel : ∀ t : Fin grid0.N, win0_18.flush t = true)
theorem live18 : ∀ t : Fin cfg0.N, cfg0.idle 18 (cfg0.grid.coords t) = false :=
  (by decide +kernel : ∀ t : Fin grid0.N, idle0 18 (grid0.coords t) = false)
theorem idx18 : ∀ t : Fin cfg0.N, win0_18.index t = ![t.val, 0, 0] :=
  (by decide +kernel : ∀ t : Fin grid0.N, win0_18.index t = ![t.val, 0, 0])

theorem after0_17 (c : Dev nD) (t : Fin cfg0.N) : (dats m 0 c).after 17 t = dtR m c := by dsimp only [dats]

/-- The last point alone stores the step sizes, and they are written back there. -/
theorem flush17 : ∀ t : Fin cfg0.N, (cfg0.win 17).flush t = true ↔ t.val = 9 :=
  (by decide +kernel : ∀ t : Fin grid0.N, win0_17.flush t = true ↔ t.val = 9)
theorem stay17 : ∀ t : Fin cfg0.N, t.val < 9 → cfg0.idle 17 (cfg0.grid.coords t) = true :=
  (by decide +kernel : ∀ t : Fin grid0.N, t.val < 9 → idle0 17 (grid0.coords t) = true)
theorem live17 : ∀ t : Fin cfg0.N, t.val = 9 → cfg0.idle 17 (cfg0.grid.coords t) = false :=
  (by decide +kernel : ∀ t : Fin grid0.N, t.val = 9 → idle0 17 (grid0.coords t) = false)
theorem idx17 : ∀ t : Fin cfg0.N, win0_17.index t = ![0, 0] :=
  (by decide +kernel : ∀ t : Fin grid0.N, win0_17.index t = ![0, 0])

/-- Until then the buffer holds what it held. -/
theorem before17 (c : Dev nD) (d) : ∀ (n : ℕ) (t : Fin cfg0.N), t.val = n → (dats m 0 c).before 17 t d = d
  | 0, t, ht => by
      unfold Dat.before
      rw [if_neg (by rw [(cfg0.win 17).fetch_out rfl t]; exact Bool.false_ne_true), if_pos ht]
  | n + 1, t, ht => by
      have hN : t.val < 10 := lt_of_lt_of_eq t.isLt (show cfg0.N = 10 from N_0)
      have hfl : (cfg0.win 17).flush ⟨t.val - 1, Nat.lt_of_le_of_lt (Nat.sub_le _ _) t.isLt⟩ = false := by
        rw [Bool.eq_false_iff]; intro h; have h' := (flush17 _).mp h; have : t.val - 1 = 9 := h'; omega
      have hidle := stay17 ⟨t.val - 1, Nat.lt_of_le_of_lt (Nat.sub_le _ _) t.isLt⟩ (by show t.val - 1 < 9; omega)
      have hb := before17 c d n ⟨t.val - 1, Nat.lt_of_le_of_lt (Nat.sub_le _ _) t.isLt⟩ (by show t.val - 1 = n; omega)
      rw [(dats m 0 c).before_of_pos 17 t (by omega) ((cfg0.win 17).fetch_out rfl t), hfl, if_neg Bool.false_ne_true]
      unfold Dat.left
      rw [hidle]
      exact hb

/-- Before the last point the step sizes' buffer is left at anything. -/
theorem leaves17_pos (c : Dev nD) (t : Fin cfg0.N) (h : t.val < 9) :
    (iprop(∃ d, owns (c : Thread nD τ) (ms0_17 t) fullShare d) : sProp 𝕄) ⊢ (dats m 0 c).leaves 17 t := by
  have e : (dats m 0 c).leaves 17 t = iprop(∃ d, owns (c : Thread nD τ) (ms0_17 t) fullShare ((dats m 0 c).before 17 t d)) :=
    (dats m 0 c).leaves_idle 17 t (stay17 t h) (by rw [Bool.eq_false_iff]; intro h'; have := (flush17 t).mp h'; omega)
  rw [e]
  iintro ⟨%d, H⟩
  iexists d
  rw [before17 m c d t.val t rfl]
  iexact H

theorem leaves17_last (c : Dev nD) (t : Fin cfg0.N) (h : t.val = 9) :
    (dats m 0 c).leaves 17 t = owns (c : Thread nD τ) (ms0_17 t) fullShare (dtR m c) := by
  unfold Dat.leaves
  rw [live17 t h, after0_17]

theorem flush15 : ∀ t : Fin cfg0.N, (cfg0.win 15).flush t = true ↔ t.val ≠ 8 :=
  (by decide +kernel : ∀ t : Fin grid0.N, win0_15.flush t = true ↔ t.val ≠ 8)
theorem flush16 : ∀ t : Fin cfg0.N, (cfg0.win 16).flush t = true ↔ (4 ≤ t.val ∧ t.val ≠ 8) :=
  (by decide +kernel : ∀ t : Fin grid0.N, win0_16.flush t = true ↔ (4 ≤ t.val ∧ t.val ≠ 8))

/-- The points before the last store both. -/
theorem live15 : ∀ t : Fin cfg0.N, t.val < 9 → cfg0.idle 15 (cfg0.grid.coords t) = false :=
  (by decide +kernel : ∀ t : Fin grid0.N, t.val < 9 → idle0 15 (grid0.coords t) = false)
theorem live16 : ∀ t : Fin cfg0.N, t.val < 9 → cfg0.idle 16 (cfg0.grid.coords t) = false :=
  (by decide +kernel : ∀ t : Fin grid0.N, t.val < 9 → idle0 16 (grid0.coords t) = false)

/-- The last point finds the eighth block as the point before left it. -/
theorem kept15 (c : Dev nD) (t : Fin cfg0.N) (ht : t.val = 9) (d) : (dats m 0 c).before 15 t d = blkG m c 9 := by
  have hfl : (cfg0.win 15).flush ⟨t.val - 1, Nat.lt_of_le_of_lt (Nat.sub_le _ _) t.isLt⟩ = false := by
    rw [Bool.eq_false_iff]; intro h; exact ((flush15 _).mp h) (by show t.val - 1 = 8; omega)
  have hlive := live15 ⟨t.val - 1, Nat.lt_of_le_of_lt (Nat.sub_le _ _) t.isLt⟩ (by show t.val - 1 < 9; omega)
  rw [(dats m 0 c).before_of_pos 15 t (by omega) ((cfg0.win 15).fetch_out rfl t), hfl, if_neg Bool.false_ne_true]
  unfold Dat.left
  rw [hlive]
  unfold Dat.kept
  rw [Pipeline.fill_of_clip_none 15 _ (fun _ => rfl) d ((dats m 0 c).after 15 _), Window.fill_cut, after0_15]
  show blkG m c (t.val - 1) = _
  rw [ht]; rfl
theorem kept16 (c : Dev nD) (t : Fin cfg0.N) (ht : t.val = 9) (d) : (dats m 0 c).before 16 t d = blkG m c 9 := by
  have hfl : (cfg0.win 16).flush ⟨t.val - 1, Nat.lt_of_le_of_lt (Nat.sub_le _ _) t.isLt⟩ = false := by
    rw [Bool.eq_false_iff]; intro h; exact ((flush16 _).mp h).2 (by show t.val - 1 = 8; omega)
  have hlive := live16 ⟨t.val - 1, Nat.lt_of_le_of_lt (Nat.sub_le _ _) t.isLt⟩ (by show t.val - 1 < 9; omega)
  rw [(dats m 0 c).before_of_pos 16 t (by omega) ((cfg0.win 16).fetch_out rfl t), hfl, if_neg Bool.false_ne_true]
  unfold Dat.left
  rw [hlive]
  unfold Dat.kept
  rw [Pipeline.fill_of_clip_none 16 _ (fun _ => rfl) d ((dats m 0 c).after 16 _), Window.fill_cut, after0_16]
  show blkG m c (t.val - 1) = _
  rw [ht]; rfl

/-! ## The result arrays -/

def res4 (c : Dev nD) : S960x4608.Idx → EReal := fun i => projG (X m c) (NW m c) (W m c) (WS m c) (i 0) ⟨(i 1).val, Nat.lt_trans (i 1).isLt (by decide)⟩
def res5 (c : Dev nD) : S960x2560.Idx → EReal := fun i => projG (X m c) (NW m c) (W m c) (WS m c) (i 0) ⟨2048 + (i 1).val, Nat.add_lt_add_left (i 1).isLt 2048 |>.trans (by decide)⟩

def res6 (c : Dev nD) : S40x24x4096.Idx → BitVec 8 := fun i => ucG (X m c) (NW m c) (i 0) (i 1) (i 2)

theorem final15 (c : Dev nD) : (dats m 0 c).arrAt 15 cfg0.N = res4 m c := by
  refine (dats m 0 c).arrAt_eq_of_cover 15 _ (fun t hf => ?_) (fun i => ?_)
  · have hN : t.val < 10 := lt_of_lt_of_eq t.isLt (show cfg0.N = 10 from N_0)
    have hf' := (flush15 t).mp hf
    have e := (idx0 t).2.2.2.2.1
    show (cfg0.win 15).cut (grid0.coords t) ((dats m 0 c).after 15 t) = _
    rw [after0_15]
    funext y
    change S960x512.Idx at y
    idx_vars y
    show projG (X m c) (NW m c) (W m c) (WS m c) y0 _ = projG (X m c) (NW m c) (W m c) (WS m c) _ _
    refine congrArg₂ (projG (X m c) (NW m c) (W m c) (WS m c)) (Fin.ext ?_) (Fin.ext ?_)
    · show y0.val = win0_15.index t 0 * 960 + 1 * y0.val
      rw [e]; show y0.val = 0 * 960 + 1 * y0.val; omega
    · show 512 * min t.val 8 + y1.val = (win0_15.index t 1 * 512 + 1 * y1.val)
      rw [e]; show 512 * min t.val 8 + y1.val = ((min t.val 8) * 512 + 1 * y1.val); omega
  · change S960x4608.Idx at i
    have h0 : (i 0 : Nat) < 960 := (i 0).isLt
    have h1 : (i 1 : Nat) < 4608 := (i 1).isLt
    have hN : cfg0.N = 10 := N_0
    obtain ⟨t, ht⟩ : ∃ t : Fin cfg0.N, t.val = if (i 1).val / 512 = 8 then 9 else (i 1).val / 512 := ⟨⟨if (i 1).val / 512 = 8 then 9 else (i 1).val / 512, by rw [hN]; split <;> omega⟩, rfl⟩
    have e := (idx0 t).2.2.2.2.1
    refine ⟨t, (flush15 t).mpr (by rw [ht]; split <;> omega), ?_⟩
    show i ∈ ((View.whole main_v6_0).slice (win0_15.rect t)).set
    rw [View.set_slice_whole, Rect.mem_set_unit]
    have hb : min t.val 8 = (i 1).val / 512 := by rw [ht]; split <;> omega
    intro a
    match a with
    | ⟨0, _⟩ => show win0_15.index t 0 * 960 ≤ (i 0 : Nat) ∧ (i 0 : Nat) < win0_15.index t 0 * 960 + 960
                rw [e]; show 0 * 960 ≤ (i 0 : Nat) ∧ (i 0 : Nat) < 0 * 960 + 960; omega
    | ⟨1, _⟩ => show win0_15.index t 1 * 512 ≤ (i 1 : Nat) ∧ (i 1 : Nat) < win0_15.index t 1 * 512 + 512
                rw [e]; show (min t.val 8) * 512 ≤ (i 1 : Nat) ∧ (i 1 : Nat) < (min t.val 8) * 512 + 512; omega

theorem final16 (c : Dev nD) : (dats m 0 c).arrAt 16 cfg0.N = res5 m c := by
  refine (dats m 0 c).arrAt_eq_of_cover 16 _ (fun t hf => ?_) (fun i => ?_)
  · have hN : t.val < 10 := lt_of_lt_of_eq t.isLt (show cfg0.N = 10 from N_0)
    have hf' := (flush16 t).mp hf
    have e := (idx0 t).2.2.2.2.2
    show (cfg0.win 16).cut (grid0.coords t) ((dats m 0 c).after 16 t) = _
    rw [after0_16]
    funext y
    change S960x512.Idx at y
    idx_vars y
    show projG (X m c) (NW m c) (W m c) (WS m c) y0 _ = projG (X m c) (NW m c) (W m c) (WS m c) _ _
    refine congrArg₂ (projG (X m c) (NW m c) (W m c) (WS m c)) (Fin.ext ?_) (Fin.ext ?_)
    · show y0.val = win0_16.index t 0 * 960 + 1 * y0.val
      rw [e]; show y0.val = 0 * 960 + 1 * y0.val; omega
    · show 512 * min t.val 8 + y1.val = 2048 + (win0_16.index t 1 * 512 + 1 * y1.val)
      rw [e]; show 512 * min t.val 8 + y1.val = 2048 + ((min (t.val - 4) 4) * 512 + 1 * y1.val); omega
  · change S960x2560.Idx at i
    have h0 : (i 0 : Nat) < 960 := (i 0).isLt
    have h1 : (i 1 : Nat) < 2560 := (i 1).isLt
    have hN : cfg0.N = 10 := N_0
    obtain ⟨t, ht⟩ : ∃ t : Fin cfg0.N, t.val = if (i 1).val / 512 = 4 then 9 else 4 + (i 1).val / 512 := ⟨⟨if (i 1).val / 512 = 4 then 9 else 4 + (i 1).val / 512, by rw [hN]; split <;> omega⟩, rfl⟩
    have e := (idx0 t).2.2.2.2.2
    refine ⟨t, (flush16 t).mpr (by rw [ht]; split <;> omega), ?_⟩
    show i ∈ ((View.whole main_v6_1).slice (win0_16.rect t)).set
    rw [View.set_slice_whole, Rect.mem_set_unit]
    have hb : min (t.val - 4) 4 = (i 1).val / 512 := by rw [ht]; split <;> omega
    intro a
    match a with
    | ⟨0, _⟩ => show win0_16.index t 0 * 960 ≤ (i 0 : Nat) ∧ (i 0 : Nat) < win0_16.index t 0 * 960 + 960
                rw [e]; show 0 * 960 ≤ (i 0 : Nat) ∧ (i 0 : Nat) < 0 * 960 + 960; omega
    | ⟨1, _⟩ => show win0_16.index t 1 * 512 ≤ (i 1 : Nat) ∧ (i 1 : Nat) < win0_16.index t 1 * 512 + 512
                rw [e]; show (min (t.val - 4) 4) * 512 ≤ (i 1 : Nat) ∧ (i 1 : Nat) < (min (t.val - 4) 4) * 512 + 512; omega

theorem final17 (c : Dev nD) : (dats m 0 c).arrAt 17 cfg0.N = dtR m c := by
  refine (dats m 0 c).arrAt_eq_of_cover 17 _ (fun t hf => ?_) (fun i => ?_)
  · have e := idx17 t
    show (cfg0.win 17).cut (grid0.coords t) ((dats m 0 c).after 17 t) = _
    rw [after0_17]
    funext y
    change S960x32.Idx at y
    idx_vars y
    show dtG (X m c) (NW m c) (W m c) (WS m c) (B m c) y0 y1 = dtG (X m c) (NW m c) (W m c) (WS m c) (B m c) _ _
    refine congrArg₂ (dtG (X m c) (NW m c) (W m c) (WS m c) (B m c)) (Fin.ext ?_) (Fin.ext ?_)
    · show y0.val = win0_17.index t 0 * 960 + 1 * y0.val
      rw [e]; show y0.val = 0 * 960 + 1 * y0.val; omega
    · show y1.val = win0_17.index t 1 * 32 + 1 * y1.val
      rw [e]; show y1.val = 0 * 32 + 1 * y1.val; omega
  · change S960x32.Idx at i
    have h0 : (i 0 : Nat) < 960 := (i 0).isLt
    have h1 : (i 1 : Nat) < 32 := (i 1).isLt
    have hN : cfg0.N = 10 := N_0
    obtain ⟨t, ht⟩ : ∃ t : Fin cfg0.N, t.val = 9 := ⟨⟨9, by rw [hN]; omega⟩, rfl⟩
    have e := idx17 t
    refine ⟨t, (flush17 t).mpr ht, ?_⟩
    show i ∈ ((View.whole main_v6_2).slice (win0_17.rect t)).set
    rw [View.set_slice_whole, Rect.mem_set_unit]
    intro a
    match a with
    | ⟨0, _⟩ => show win0_17.index t 0 * 960 ≤ (i 0 : Nat) ∧ (i 0 : Nat) < win0_17.index t 0 * 960 + 960
                rw [e]; show 0 * 960 ≤ (i 0 : Nat) ∧ (i 0 : Nat) < 0 * 960 + 960; omega
    | ⟨1, _⟩ => show win0_17.index t 1 * 32 ≤ (i 1 : Nat) ∧ (i 1 : Nat) < win0_17.index t 1 * 32 + 32
                rw [e]; show 0 * 32 ≤ (i 1 : Nat) ∧ (i 1 : Nat) < 0 * 32 + 32; omega

theorem final18 (c : Dev nD) : (dats m 0 c).arrAt 18 cfg0.N = res6 m c := by
  refine (dats m 0 c).arrAt_eq_of_cover 18 _ (fun t hf => ?_) (fun i => ?_)
  · have hN : t.val < 10 := lt_of_lt_of_eq t.isLt (show cfg0.N = 10 from N_0)
    have e := idx18 t
    show (cfg0.win 18).cut (grid0.coords t) ((dats m 0 c).after 18 t) = _
    rw [after0_18]
    funext y
    change S4x24x4096.Idx at y
    idx_vars y
    show ucG (X m c) (NW m c) _ y1 y2 = ucG (X m c) (NW m c) _ _ _
    have e0 : (4 * t.val + y0.val) % 40 = win0_18.index t 0 * 4 + 1 * y0.val := by
      rw [e]; show (4 * t.val + y0.val) % 40 = t.val * 4 + 1 * y0.val; omega
    have e1 : y1.val = win0_18.index t 1 * 24 + 1 * y1.val := by
      rw [e]; show y1.val = 0 * 24 + 1 * y1.val; omega
    have e2 : y2.val = win0_18.index t 2 * 4096 + 1 * y2.val := by
      rw [e]; show y2.val = 0 * 4096 + 1 * y2.val; omega
    exact congr (congrArg₂ (ucG (X m c) (NW m c)) (Fin.ext e0) (Fin.ext e1)) (Fin.ext e2)
  · change S40x24x4096.Idx at i
    have h0 : (i 0 : Nat) < 40 := (i 0).isLt
    have h1 : (i 1 : Nat) < 24 := (i 1).isLt
    have h2 : (i 2 : Nat) < 4096 := (i 2).isLt
    have hN : cfg0.N = 10 := N_0
    obtain ⟨t, ht⟩ : ∃ t : Fin cfg0.N, t.val = (i 0).val / 4 := ⟨⟨(i 0).val / 4, by rw [hN]; omega⟩, rfl⟩
    have e := idx18 t
    refine ⟨t, flush18 t, ?_⟩
    show i ∈ ((View.whole main_v6_3).slice (win0_18.rect t)).set
    rw [View.set_slice_whole, Rect.mem_set_unit]
    intro a
    match a with
    | ⟨0, _⟩ => show win0_18.index t 0 * 4 ≤ (i 0 : Nat) ∧ (i 0 : Nat) < win0_18.index t 0 * 4 + 4
                rw [e]; show t.val * 4 ≤ (i 0 : Nat) ∧ (i 0 : Nat) < t.val * 4 + 4; omega
    | ⟨1, _⟩ => show win0_18.index t 1 * 24 ≤ (i 1 : Nat) ∧ (i 1 : Nat) < win0_18.index t 1 * 24 + 24
                rw [e]; show 0 * 24 ≤ (i 1 : Nat) ∧ (i 1 : Nat) < 0 * 24 + 24; omega
    | ⟨2, _⟩ => show win0_18.index t 2 * 4096 ≤ (i 2 : Nat) ∧ (i 2 : Nat) < win0_18.index t 2 * 4096 + 4096
                rw [e]; show 0 * 4096 ≤ (i 2 : Nat) ∧ (i 2 : Nat) < 0 * 4096 + 4096; omega

end Cert.InProjIdeal.Hand

end
-- ==== Proof.InIdBody.lean ====
/- The body of `InProjIdeal` in two parts: what it does at the first point alone, and the rest of it. -/
module

public import proofs.«01_k».proof.Proof.InIdBase

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body does at the first point: the replay's tables, and the activations' codes and scales. -/
noncomputable def first (i : grid0.Coords) (arg1 : Memref sig .tc .smem S40x7 .i32) (harg1 : arg1.IsWhole) (arg2 : Memref sig .tc .smem S40 .i32) (harg2 : arg2.IsWhole) (arg3 : Memref sig .tc .vmem S960x4096 .bf16) (harg3 : arg3.IsWhole) (arg4 : Memref sig .tc .vmem S1x4096 .f32) (harg4 : arg4.IsWhole) (arg5 : Memref sig .tc .vmem S4096x512 .i8) (harg5 : arg5.IsWhole) (arg6 : Memref sig .tc .vmem S1x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S4x2048x128 .fp8e4m3) (harg9 : arg9.IsWhole) (arg10 : Memref sig .tc .vmem S4x32x64 .f32) (harg10 : arg10.IsWhole) (arg11 : Memref sig .tc .vmem S40x24x2048 .i8) (harg11 : arg11.IsWhole) (arg12 : Memref sig .tc .vmem S40x24x32 .f32) (harg12 : arg12.IsWhole) (arg13 : Memref sig .tc .vmem S40x24x2x128 .i8) (harg13 : arg13.IsWhole) (arg14 : Memref sig .tc .vmem S40x24x2 .f32) (harg14 : arg14.IsWhole) (arg15 : Memref sig .tc .vmem S40x24x32 .f32) (harg15 : arg15.IsWhole) (arg16 : Memref sig .tc .vmem S960x512 .f32) (harg16 : arg16.IsWhole) (arg17 : Memref sig .tc .vmem S960x512 .bf16) (harg17 : arg17.IsWhole) (arg18 : Memref sig .tc .vmem S960x32 .f32) (harg18 : arg18.IsWhole) (arg19 : Memref sig .tc .vmem S4x24x4096 .i8) (harg19 : arg19.IsWhole) (arg20 : Memref sig .tc .vmem S40x24 .f32) (harg20 : arg20.IsWhole) (arg21 : Memref sig .tc .vmem S4x2048x128 .fp8e4m3) (harg21 : arg21.IsWhole) (arg22 : Memref sig .tc .vmem S4x32x64 .f32) (harg22 : arg22.IsWhole) (arg23 : Memref sig .tc .vmem S4x16x128 .f32) (harg23 : arg23.IsWhole) (arg24 : Memref sig .tc .vmem S960x4096 .bf16) (harg24 : arg24.IsWhole) (arg25 : Memref sig .tc .vmem S960x128 .f32) (harg25 : arg25.IsWhole) (arg26 : Memref sig .tc .vmem S320x2048 .f32) (harg26 : arg26.IsWhole) (arg27 : Memref sig .tc .vmem S2x320x128 .f32) (harg27 : arg27.IsWhole) :
    Prog (TpuEff nD τ sig (Elt F) Λ₀ .tc) PUnit := do
  let arg0 : BitVec 32 := BitVec.ofNat 32 (i 0).val
  if k0_h1 : k0_cond1 i = 1#1 then do
    let c0_i32_16 : BitVec 32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1
    Scf.Loop.for k0_t3_loop (k0_t3_ok i k0_h1) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 c0_i32_16)
    pure ⟨⟩
  else do
    pure ⟨⟩

/-- The rest of the body, at every point. -/
noncomputable def rest (i : grid0.Coords) (arg1 : Memref sig .tc .smem S40x7 .i32) (harg1 : arg1.IsWhole) (arg2 : Memref sig .tc .smem S40 .i32) (harg2 : arg2.IsWhole) (arg3 : Memref sig .tc .vmem S960x4096 .bf16) (harg3 : arg3.IsWhole) (arg4 : Memref sig .tc .vmem S1x4096 .f32) (harg4 : arg4.IsWhole) (arg5 : Memref sig .tc .vmem S4096x512 .i8) (harg5 : arg5.IsWhole) (arg6 : Memref sig .tc .vmem S1x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S4x2048x128 .fp8e4m3) (harg9 : arg9.IsWhole) (arg10 : Memref sig .tc .vmem S4x32x64 .f32) (harg10 : arg10.IsWhole) (arg11 : Memref sig .tc .vmem S40x24x2048 .i8) (harg11 : arg11.IsWhole) (arg12 : Memref sig .tc .vmem S40x24x32 .f32) (harg12 : arg12.IsWhole) (arg13 : Memref sig .tc .vmem S40x24x2x128 .i8) (harg13 : arg13.IsWhole) (arg14 : Memref sig .tc .vmem S40x24x2 .f32) (harg14 : arg14.IsWhole) (arg15 : Memref sig .tc .vmem S40x24x32 .f32) (harg15 : arg15.IsWhole) (arg16 : Memref sig .tc .vmem S960x512 .f32) (harg16 : arg16.IsWhole) (arg17 : Memref sig .tc .vmem S960x512 .bf16) (harg17 : arg17.IsWhole) (arg18 : Memref sig .tc .vmem S960x32 .f32) (harg18 : arg18.IsWhole) (arg19 : Memref sig .tc .vmem S4x24x4096 .i8) (harg19 : arg19.IsWhole) (arg20 : Memref sig .tc .vmem S40x24 .f32) (harg20 : arg20.IsWhole) (arg21 : Memref sig .tc .vmem S4x2048x128 .fp8e4m3) (harg21 : arg21.IsWhole) (arg22 : Memref sig .tc .vmem S4x32x64 .f32) (harg22 : arg22.IsWhole) (arg23 : Memref sig .tc .vmem S4x16x128 .f32) (harg23 : arg23.IsWhole) (arg24 : Memref sig .tc .vmem S960x4096 .bf16) (harg24 : arg24.IsWhole) (arg25 : Memref sig .tc .vmem S960x128 .f32) (harg25 : arg25.IsWhole) (arg26 : Memref sig .tc .vmem S320x2048 .f32) (harg26 : arg26.IsWhole) (arg27 : Memref sig .tc .vmem S2x320x128 .f32) (harg27 : arg27.IsWhole) :
    Prog (TpuEff nD τ sig (Elt F) Λ₀ .tc) PUnit := do
  let arg0 : BitVec 32 := BitVec.ofNat 32 (i 0).val
  if k0_h2 : k0_cond2 i = 1#1 then do
    let ⟨v1681, v2081, v2170, v2171⟩ : Σ' (v1681 : FVec F S1x2048 .f32) (v2081 : FVec F S128x1024 .f32) (v2170 : FVec F S1x64 .f32), Vec F S1x1x64 .f32 ← k0_part116 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 k0_h2
    let v2197 : FVec F S1x128 .f32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1681 v2081 v2170 v2171
    let ⟨v2243, v2245, cst_1247⟩ : Σ' (v2243 : FVec F S1x128 .f32) (v2245 : FVec F S128x128 .f32), F .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1681 v2081 v2197
    let ⟨v2278, v2279⟩ : Σ' (v2278 : FVec F S128x128 .f32), FVec F S128x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1681 v2081 v2243 v2245 cst_1247
    let v2313 : FVec F S1x64 .f32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2278 v2279
    let ⟨v2335, v2350, v2351⟩ : Σ' (v2335 : FVec F S1x128 .f32) (v2350 : FVec F S1x64 .f32), Vec F S1x1x64 .f32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1681 v2081 v2313
    let ⟨v2381, v2389⟩ : Σ' (v2381 : FVec F S1x128 .f32), FVec F S128x128 .fp8e4m3 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1681 v2081 v2335 v2350 v2351
    let ⟨v2418, v2421, v2423, cst_1353⟩ : Σ' (v2418 : FVec F S128x128 .f32) (v2421 : FVec F S1x128 .f32) (v2423 : IVec S1x128 1), F .f32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1681 v2081 v2381 v2389
    let v2456 : FVec F S240x512 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2418 v2421 v2423 cst_1353
    let ⟨v2485, v2488, v2493⟩ : Σ' (v2485 : BitVec 32) (v2488 : FVec F S1x2048 .f32), FVec F S8x2048 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 k0_h2 v2456
    let ⟨v2502, v2511, v2526, v2535⟩ : Σ' (v2502 : FVec F S32x2048 .bf16) (v2511 : FVec F S128x1024 .f32) (v2526 : FVec F S128x128 .f32), FVec F S1x128 .f32 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h2 v2485 v2488 v2493
    let ⟨v2566, v2568⟩ : Σ' (v2566 : FVec F S128x128 .f32), FVec F S1x128 .f32 ← k0_part96 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2526 v2535
    k0_part97 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2511 v2566 v2568
    let ⟨v2627, v2642⟩ : Σ' (v2627 : FVec F S1x128 .f32), FVec F S1x64 .f32 ← k0_part98 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2511
    let ⟨v2673, v2680⟩ : Σ' (v2673 : FVec F S1x128 .f32), FVec F S128x128 .fp8e4m3 ← k0_part99 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2511 v2627 v2642
    let ⟨v2710, v2713, cst_1518⟩ : Σ' (v2710 : FVec F S128x128 .f32) (v2713 : FVec F S1x128 .f32), F .f32 ← k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2511 v2673 v2680
    let v2746 : FVec F S1x128 .f32 ← k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2710 v2713 cst_1518
    let v2784 : FVec F S1x64 .f32 ← k0_part102 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2511 v2746
    let v2811 : FVec F S1x128 .f32 ← k0_part103 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2511 v2784
    let ⟨v2848, v2857, v2858⟩ : Σ' (v2848 : FVec F S128x128 .f32) (v2857 : FVec F S1x128 .f32), FVec F S128x128 .f32 ← k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2511 v2811
    let ⟨v2888, v2890⟩ : Σ' (v2888 : FVec F S128x1024 .f32), FVec F S1x64 .f32 ← k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h2 v2485 v2502 v2848 v2857 v2858
    let ⟨v2912, v2930⟩ : Σ' (v2912 : FVec F S1x128 .f32), FVec F S1x1x64 .f32 ← k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v2890
    let ⟨v2958, v2966, v2967⟩ : Σ' (v2958 : FVec F S1x128 .f32) (v2966 : FVec F S128x128 .fp8e4m3), Vec F S1x128x128 .fp8e4m3 ← k0_part107 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v2912 v2930
    let ⟨v2995, v3000, v3002⟩ : Σ' (v2995 : FVec F S128x128 .f32) (v3000 : IVec S1x128 1), FVec F S1x128 .f32 ← k0_part108 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v2958 v2966 v2967
    let ⟨v3031, v3034⟩ : Σ' (v3031 : FVec F S1x128 .f32), FVec F S128x128 .fp8e4m3 ← k0_part109 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2995 v3000 v3002
    k0_part110 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v3031 v3034
    let ⟨v3096, v3110⟩ : Σ' (v3096 : FVec F S1x128 .f32), FVec F S1x1x128 .f32 ← k0_part111 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888
    let ⟨v3142, cst_1769, v3146⟩ : Σ' (v3142 : FVec F S1x128 .f32) (cst_1769 : F .f32), FVec F S128x128 .f32 ← k0_part112 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v3096 v3110
    let ⟨v3179, v3180⟩ : Σ' (v3179 : FVec F S128x128 .f32), FVec F S128x128 .f32 ← k0_part113 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v3142 cst_1769 v3146
    let ⟨v3212, v3213⟩ : Σ' (v3212 : FVec F S1x64 .f32), Vec F S1x1x64 .f32 ← k0_part114 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v3179 v3180
    let v3234 : FVec F S1x128 .f32 ← k0_part115 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v2488 v2888 v3212 v3213
    let v3254 : Vec F S1x1x64 .f32 ← Prog.lift (.load arg22 (Rect.unit (s := S4x32x64) ![3, 31, 0] S1x1x64.size inb_S4x32x64_S1x1x64_3_31_0).toLoadRect (View.loadsAt_vmem h_S1x1x64))
    Prog.lift (.store arg22 (Rect.unit (s := S4x32x64) ![3, 31, 0] S1x1x64.size inb_S4x32x64_S1x1x64_3_31_0) (k0_pay2 v3234) Finset.univ (View.stores_vmem_bits_univ h_S1x1x64 rfl) (.inl rfl))
    pure ⟨⟩
  else do
    pure ⟨⟩
  if k0_h3 : k0_cond3 i = 1#1 then do
    let ⟨v1711, v2111, v2181, v2183, cst_1199, cst_1200⟩ : Σ' (v1711 : FVec F S1x2048 .f32) (v2111 : FVec F S128x1024 .f32) (v2181 : FVec F S1x128 .f32) (v2183 : FVec F S128x128 .f32) (cst_1199 : F .f32), F .f32 ← k0_part207 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 k0_h3
    let v3274 : FVec F S1x128 .f32 ← k0_part208 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 k0_h3 v1711 v2111 v2181 v2183 cst_1199 cst_1200
    let v3286 : Vec F S1x1x128 .f32 ← Prog.lift (.load arg23 (Rect.unit (s := S4x16x128) ![3, 15, 0] S1x1x128.size inb_S4x16x128_S1x1x128_3_15_0).toLoadRect (View.loadsAt_vmem h_S1x1x128))
    Prog.lift (.store arg23 (Rect.unit (s := S4x16x128) ![3, 15, 0] S1x1x128.size inb_S4x16x128_S1x1x128_3_15_0) (k0_pay3 v3274) Finset.univ (View.stores_vmem_bits_univ h_S1x1x128 rfl) (.inl rfl))
    let v3290 : Vec F S1x1x64 .f32 ← Prog.lift (.load arg22 (Rect.unit (s := S4x32x64) ![3, 30, 0] S1x1x64.size inb_S4x32x64_S1x1x64_3_30_0).toLoadRect (View.loadsAt_vmem h_S1x1x64))
    Prog.lift (.store arg22 (Rect.unit (s := S4x32x64) ![3, 30, 0] S1x1x64.size inb_S4x32x64_S1x1x64_3_30_0) (k0_pay4 v3274) Finset.univ (View.stores_vmem_bits_univ h_S1x1x64 rfl) (.inl rfl))
    let v3294 : Vec F S1x1x64 .f32 ← Prog.lift (.load arg22 (Rect.unit (s := S4x32x64) ![3, 31, 0] S1x1x64.size inb_S4x32x64_S1x1x64_3_31_0).toLoadRect (View.loadsAt_vmem h_S1x1x64))
    Prog.lift (.store arg22 (Rect.unit (s := S4x32x64) ![3, 31, 0] S1x1x64.size inb_S4x32x64_S1x1x64_3_31_0) (k0_pay5 v3274) Finset.univ (View.stores_vmem_bits_univ h_S1x1x64 rfl) (.inl rfl))
    pure ⟨⟩
  else do
    pure ⟨⟩
  pure ⟨⟩

/-- The body is the one after the other. -/
theorem body_eq (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole) :
    cc0_in_proj_replay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = (first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 >>= fun _ => rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  rw [cc0_in_proj_replay_eq_skeleton]
  unfold cc0_in_proj_replay_skel first
  dsimp only
  by_cases h : k0_cond1 i = 1#1
  · rw [dif_pos h, dif_pos h]
    simp only [Prog.bind_assoc, Prog.pure_eq_ret, Prog.bind_ret]
    rfl
  · rw [dif_neg h, dif_neg h]
    rfl

end Cert.InProjIdeal.Hand

end
-- ==== Proof.InIdRunH.lean ====
/- The body of `InProjIdeal` at the first point, run once over its memory operations. -/
module

public import proofs.«01_k».proof.Proof.InIdBody

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a whole body is large
set_option maxHeartbeats 5640000 in
/-- What the body stores at the first point, buffer by buffer as pieces (last first), with the triple: the inputs' buffers at their
    contents and kept, the named outputs' and the carried scratch's with their pieces written, every other buffer at
    anything. -/
noncomputable def runH (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc0 : k0_cond1 i = 1#1)
    (x0 : {x : Vec F S40x7 .i32 // Rows x}) (x1 : Vec F S40 .i32) (x2 : Vec F S960x4096 .bf16) (x3 : Vec F S1x4096 .f32) (x4 : Vec F S4096x512 .i8) (x5 : Vec F S1x512 .f32) (x6 : Vec F S1x32 .f32) (x7 : Vec F S1x32 .f32) (x8 : Vec F S4x2048x128 .fp8e4m3) (x9 : Vec F S4x32x64 .f32) (x10 : Vec F S40x24x2048 .i8) (x11 : Vec F S40x24x32 .f32) (x12 : Vec F S40x24x2x128 .i8) (x13 : Vec F S40x24x2 .f32) (x14 : Vec F S40x24x32 .f32) :
    Σ' (L23 : List (View.Piece (Elt F) S960x4096 .bf16)), { L24 : List (View.Piece (Elt F) S960x128 .f32) //
      ∀ (E : Set ℕ) (K : PUnit → sProp 𝕄),
        iprop(owns (c : Thread nD τ) arg1 fullShare x0.1
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (iprop(owns (c : Thread nD τ) arg1 fullShare x0.1
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)
            ∗ (∃ d, owns (c : Thread nD τ) arg26 fullShare d)
            ∗ (∃ d, owns (c : Thread nD τ) arg27 fullShare d)) -∗ K ⟨⟩))
          ⊢ wp frame (wpE (defs₀ (F := F)) Variants.none c none) E (first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    unfold first
    simp only [k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _; iexact H23
    isplitl [H24]
    · iexists _; iexact H24
    isplitl [H25]
    · iexists _, _; isplitr; swap; · iexact H25
      ipureintro; rfl
    iexists _, _; isplitr; swap; · iexact H26
    ipureintro; rfl

end Cert.InProjIdeal.Hand

end
-- ==== Proof.InIdRunR.lean ====
/- The body of `InProjIdeal` at a point before the last, run once over its memory operations. -/
module

public import proofs.«01_k».proof.Proof.InIdBody

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a whole body is large
set_option maxHeartbeats 5476000 in
/-- What the body stores at a point before the last, buffer by buffer as pieces (last first), with the triple: the inputs' buffers at their
    contents and kept, the named outputs' and the carried scratch's with their pieces written, every other buffer at
    anything. -/
noncomputable def runR (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc1 : cond0_1 i) (hc2 : ¬cond0_2 i)
    (x0 : Vec F S40x7 .i32) (x1 : Vec F S40 .i32) (x2 : Vec F S960x4096 .bf16) (x3 : Vec F S1x4096 .f32) (x4 : Vec F S4096x512 .i8) (x5 : Vec F S1x512 .f32) (x6 : Vec F S1x32 .f32) (x7 : Vec F S1x32 .f32) (x8 : Vec F S4x2048x128 .fp8e4m3) (x9 : Vec F S4x32x64 .f32) (x10 : Vec F S40x24x2048 .i8) (x11 : Vec F S40x24x32 .f32) (x12 : Vec F S40x24x2x128 .i8) (x13 : Vec F S40x24x2 .f32) (x14 : Vec F S40x24x32 .f32) (xs0 : Vec F S960x4096 .bf16) (xs1 : Vec F S960x128 .f32) :
    Σ' (L15 : List (View.Piece (Elt F) S960x512 .f32)), Σ' (L16 : List (View.Piece (Elt F) S960x512 .bf16)), { L18 : List (View.Piece (Elt F) S4x24x4096 .i8) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ f, arg16.view.loc (c : Thread nD τ) ↦[arg16.view.set]{fullShare} arg16.view.writes (Elt F) f L15)
            ∗ (∃ f, arg17.view.loc (c : Thread nD τ) ↦[arg17.view.set]{fullShare} arg17.view.writes (Elt F) f L16)
            ∗ (∃ d, owns (c : Thread nD τ) arg18 fullShare d)
            ∗ (∃ f, arg19.view.loc (c : Thread nD τ) ↦[arg19.view.set]{fullShare} arg19.view.writes (Elt F) f L18)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)) -∗ K ⟨⟩))
          ⊢ wp frame (wpE (defs₀ (F := F)) Variants.none c none) E (rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    unfold rest
    simp only [k0_part116_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg24.eq_unread hf23; obtain rfl := harg25.eq_unread hf24
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; iexact H15
    isplitl [H16]
    · iexists _; iexact H16
    isplitl [H17]
    · iexists _, _; isplitr; swap; · iexact H17
      ipureintro; rfl
    isplitl [H18]
    · iexists _; iexact H18
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _; isplitr; · ipureintro; exact harg24.read_unread _
      iexact H23
    isplitl [H24]
    · iexists _; isplitr; · ipureintro; exact harg25.read_unread _
      iexact H24
    isplitl [H25]
    · iexists _, _; isplitr; swap; · iexact H25
      ipureintro; rfl
    iexists _, _; isplitr; swap; · iexact H26
    ipureintro; rfl

end Cert.InProjIdeal.Hand

end
-- ==== Proof.InIdRunC.lean ====
/- The body of `InProjIdeal` at the last point, run once over its memory operations. -/
module

public import proofs.«01_k».proof.Proof.InIdBody

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of a whole body is large
set_option maxHeartbeats 5460000 in
/-- What the body stores at the last point, buffer by buffer as pieces (last first), with the triple: the inputs' buffers at their
    contents and kept, the named outputs' and the carried scratch's with their pieces written, every other buffer at
    anything. -/
noncomputable def runC (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)
    (hc0 : ¬cond0_0 i) (hc1 : ¬cond0_1 i) (hc2 : cond0_2 i)
    (x0 : Vec F S40x7 .i32) (x1 : Vec F S40 .i32) (x2 : Vec F S960x4096 .bf16) (x3 : Vec F S1x4096 .f32) (x4 : Vec F S4096x512 .i8) (x5 : Vec F S1x512 .f32) (x6 : Vec F S1x32 .f32) (x7 : Vec F S1x32 .f32) (x8 : Vec F S4x2048x128 .fp8e4m3) (x9 : Vec F S4x32x64 .f32) (x10 : Vec F S40x24x2048 .i8) (x11 : Vec F S40x24x32 .f32) (x12 : Vec F S40x24x2x128 .i8) (x13 : Vec F S40x24x2 .f32) (x14 : Vec F S40x24x32 .f32) (d15 : Vec F S960x512 .f32) (d16 : Vec F S960x512 .bf16) (xs0 : Vec F S960x4096 .bf16) (xs1 : Vec F S960x128 .f32) :
    Σ' (L17 : List (View.Piece (Elt F) S960x32 .f32)), { L18 : List (View.Piece (Elt F) S4x24x4096 .i8) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare d15
            ∗ owns (c : Thread nD τ) arg17 fullShare d16
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare d15
            ∗ owns (c : Thread nD τ) arg17 fullShare d16
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)) -∗ K ⟨⟩))
          ⊢ wp frame (wpE (defs₀ (F := F)) Variants.none c none) E (cc0_in_proj_replay i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_in_proj_replay_eq_skeleton]; unfold cc0_in_proj_replay_skel
    rw [k0_part207_eq_skeleton, k0_part208_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg24.eq_unread hf23; obtain rfl := harg25.eq_unread hf24
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; iexact H17
    isplitl [H18]
    · iexists _; iexact H18
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _; isplitr; · ipureintro; exact harg24.read_unread _
      iexact H23
    isplitl [H24]
    · iexists _; isplitr; · ipureintro; exact harg25.read_unread _
      iexact H24
    isplitl [H25]
    · iexists _, _; isplitr; swap; · iexact H25
      ipureintro; rfl
    iexists _, _; isplitr; swap; · iexact H26
    ipureintro; rfl

end Cert.InProjIdeal.Hand

end
-- ==== Proof.InIdVal.lean ====
/- What the buffers hold after the run: the scratch codes and scales, the projection's block, the codes' block,
   the step sizes. -/
module

public import proofs.«01_k».proof.Proof.InIdDt
public import proofs.«01_k».proof.Proof.InIdRunH
public import proofs.«01_k».proof.Proof.InIdRunR
public import proofs.«01_k».proof.Proof.InIdRunC

@[expose] public section

set_option maxRecDepth 16384

noncomputable section

namespace Cert.InProjIdeal.Hand

open Cert.InProjIdeal Cert.InProjIdeal.Gen Cert.InMath
open Idealize.ShloMosaic Idealize.ShloMosaic.TcCoe Idealize.ShloMosaic.Tactic Idealize.SL.Sem
open Idealize.ShloMosaic.Pipeline (Dat)

section
variable (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)

section
variable (hc0 : k0_cond1 i = 1#1)
    (x0 : {x : Vec Ideal S40x7 .i32 // Rows x}) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32)

theorem codes_pieces :
    ∀ p ∈ (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).1, ∀ y : p.1.shape.Idx, p.2 y = scU x2 x3 (p.1.emb y) := by
  unfold runH
  dsimp only
  exact (pb_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 _ x2 x3 _).1

theorem scales_pieces :
    ∀ p ∈ (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.1, ∀ y : p.1.shape.Idx, p.2 y = scS x2 x3 (p.1.emb y) := by
  unfold runH
  dsimp only
  exact (pb_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 _ x2 x3 _).2

theorem codes_read (f) :
    arg24.view.read (Elt Ideal) (arg24.view.writes (Elt Ideal) f (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).1) = scU x2 x3 := by
  have cover : ∀ y : S960x4096.Idx, ∃ p ∈ (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).1, y ∈ p.1.set := fun y =>
    View.cover_of_tiledL (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).1 S16x4096.size (by sl_kernel_rfl) y
  rw [View.read_writes_eq_canon _ _ _ cover]
  funext y
  exact View.canon_apply_of_pieces _ _ (codes_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14) y (cover y)

theorem scales_read (f) :
    arg25.view.read (Elt Ideal) (arg25.view.writes (Elt Ideal) f (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.1) = scS x2 x3 := by
  have cover : ∀ y : S960x128.Idx, ∃ p ∈ (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.1, y ∈ p.1.set := fun y =>
    View.cover_of_tiledL (runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.1 S16x128.size (by sl_kernel_rfl) y
  rw [View.read_writes_eq_canon _ _ _ cover]
  funext y
  exact View.canon_apply_of_pieces _ _ (scales_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14) y (cover y)

end

section
variable (hc1 : cond0_1 i) (hc2 : ¬cond0_2 i)
    (x0 : Vec Ideal S40x7 .i32) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32) (xs0 : Vec Ideal S960x4096 .bf16) (xs1 : Vec Ideal S960x128 .f32)

theorem proj_pieces :
    ∀ p ∈ (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).1, ∀ y : p.1.shape.Idx, p.2 y = blkP xs0 xs1 x4 x5 (p.1.emb y) := by
  refine View.PiecesOf.mem ?_
  unfold runR
  dsimp only
  sl_unfold_words
  simp only [View.readAt_eq_ld, harg5.read_unread, harg6.read_unread, harg24.read_unread, harg25.read_unread, View.ld_unit_zero (S := S4096x512) hz2, View.ld_unit_zero (S := S1x512) hz2]
  exact ⟨blk_rows 720 (by decide) xs0 xs1 x4 x5 _ _ inb_S960x512_S240x512_720_0, blk_rows 480 (by decide) xs0 xs1 x4 x5 _ _ inb_S960x512_S240x512_480_0, blk_rows 240 (by decide) xs0 xs1 x4 x5 _ _ inb_S960x512_S240x512_240_0, blk_rows 0 (by decide) xs0 xs1 x4 x5 _ _ inb_S960x512_S240x512_0_0, trivial⟩

theorem xbcn_pieces :
    ∀ p ∈ (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.1, ∀ y : p.1.shape.Idx, p.2 y = blkP xs0 xs1 x4 x5 (p.1.emb y) := by
  refine View.PiecesOf.mem ?_
  unfold runR
  dsimp only
  sl_unfold_words
  simp only [View.readAt_eq_ld, harg5.read_unread, harg6.read_unread, harg24.read_unread, harg25.read_unread, View.ld_unit_zero (S := S4096x512) hz2, View.ld_unit_zero (S := S1x512) hz2]
  exact ⟨blk_rows 720 (by decide) xs0 xs1 x4 x5 _ _ inb_S960x512_S240x512_720_0, blk_rows 480 (by decide) xs0 xs1 x4 x5 _ _ inb_S960x512_S240x512_480_0, blk_rows 240 (by decide) xs0 xs1 x4 x5 _ _ inb_S960x512_S240x512_240_0, blk_rows 0 (by decide) xs0 xs1 x4 x5 _ _ inb_S960x512_S240x512_0_0, trivial⟩

theorem proj_read (f) :
    arg16.view.read (Elt Ideal) (arg16.view.writes (Elt Ideal) f (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).1) = blkP xs0 xs1 x4 x5 := by
  have cover : ∀ y : S960x512.Idx, ∃ p ∈ (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).1, y ∈ p.1.set := fun y =>
    View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).1 S240x512.size (by sl_kernel_rfl) y
  rw [View.read_writes_eq_canon _ _ _ cover]
  funext y
  exact View.canon_apply_of_pieces _ _ (proj_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1) y (cover y)

theorem xbcn_read (f) :
    arg17.view.read (Elt Ideal) (arg17.view.writes (Elt Ideal) f (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.1) = blkP xs0 xs1 x4 x5 := by
  have cover : ∀ y : S960x512.Idx, ∃ p ∈ (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.1, y ∈ p.1.set := fun y =>
    View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.1 S240x512.size (by sl_kernel_rfl) y
  rw [View.read_writes_eq_canon _ _ _ cover]
  funext y
  exact View.canon_apply_of_pieces _ _ (xbcn_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1) y (cover y)

theorem ucode_pieces :
    ∀ p ∈ (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.2.1, ∀ y : p.1.shape.Idx, p.2 y = blkU xs0 (i 0).val (p.1.emb y) := by
  have hi : (i 0).val < 10 := (i 0).isLt
  refine View.PiecesOf.mem ?_
  unfold runR
  dsimp only
  sl_unfold_words
  simp only [View.readAt_eq_ld, harg24.read_unread, pay348_eq]
  exact ⟨blkU_rows (i 0).val 2 hi (by decide) xs0 _ (off44_eq i).2 _ inb_S4x24x4096_S2x24x4096_2_0_0, blkU_rows (i 0).val 0 hi (by decide) xs0 _ (off44_eq i).1 _ inb_S4x24x4096_S2x24x4096_0_0_0, trivial⟩

theorem ucode_read (f) :
    arg19.view.read (Elt Ideal) (arg19.view.writes (Elt Ideal) f (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.2.1) = blkU xs0 (i 0).val := by
  have cover : ∀ y : S4x24x4096.Idx, ∃ p ∈ (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.2.1, y ∈ p.1.set := fun y =>
    View.cover_of_tiledL (runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.2.1 S2x24x4096.size (by sl_kernel_rfl) y
  rw [View.read_writes_eq_canon _ _ _ cover]
  funext y
  exact View.canon_apply_of_pieces _ _ (ucode_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1) y (cover y)

end

section
variable (hc0 : ¬cond0_0 i) (hc1 : ¬cond0_1 i) (hc2 : cond0_2 i)
    (x0 : Vec Ideal S40x7 .i32) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32) (d15 : Vec Ideal S960x512 .f32) (d16 : Vec Ideal S960x512 .bf16) (xs0 : Vec Ideal S960x4096 .bf16) (xs1 : Vec Ideal S960x128 .f32)

theorem dt_pieces_last :
    ∀ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).1, ∀ y : p.1.shape.Idx, p.2 y = blkT xs0 xs1 x4 x5 x6 (p.1.emb y) := by
  refine View.PiecesOf.mem ?_
  unfold runC
  dsimp only
  sl_unfold_words
  simp only [View.readAt_eq_ld, harg5.read_unread, harg6.read_unread, harg7.read_unread, harg24.read_unread, harg25.read_unread, pay593_eq, pay721_eq, pay975_eq]
  exact ⟨dt_rows 720 (by decide) xs0 xs1 x4 x5 x6 _ _ _ _ _ inb_S960x32_S240x32_720_0, dt_rows 480 (by decide) xs0 xs1 x4 x5 x6 _ _ _ _ _ inb_S960x32_S240x32_480_0, dt_rows 240 (by decide) xs0 xs1 x4 x5 x6 _ _ _ _ _ inb_S960x32_S240x32_240_0, dt_rows 0 (by decide) xs0 xs1 x4 x5 x6 _ _ _ _ _ inb_S960x32_S240x32_0_0, trivial⟩

theorem dt_read_last (f) :
    arg18.view.read (Elt Ideal) (arg18.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).1) = blkT xs0 xs1 x4 x5 x6 := by
  have cover : ∀ y : S960x32.Idx, ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).1, y ∈ p.1.set := fun y =>
    View.cover_of_tiledL (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).1 S240x32.size (by sl_kernel_rfl) y
  rw [View.read_writes_eq_canon _ _ _ cover]
  funext y
  exact View.canon_apply_of_pieces _ _ (dt_pieces_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1) y (cover y)

theorem ucode_pieces_last :
    ∀ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).2.1, ∀ y : p.1.shape.Idx, p.2 y = blkU xs0 (i 0).val (p.1.emb y) := by
  have hi : (i 0).val < 10 := (i 0).isLt
  refine View.PiecesOf.mem ?_
  unfold runC
  dsimp only
  sl_unfold_words
  simp only [View.readAt_eq_ld, harg24.read_unread, pay848_eq, pay594_eq]
  exact ⟨blkU_rows (i 0).val 2 hi (by decide) xs0 _ (off50_eq i).2 _ inb_S4x24x4096_S2x24x4096_2_0_0, blkU_rows (i 0).val 0 hi (by decide) xs0 _ (off50_eq i).1 _ inb_S4x24x4096_S2x24x4096_0_0_0, trivial⟩

theorem ucode_read_last (f) :
    arg19.view.read (Elt Ideal) (arg19.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).2.1) = blkU xs0 (i 0).val := by
  have cover : ∀ y : S4x24x4096.Idx, ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).2.1, y ∈ p.1.set := fun y =>
    View.cover_of_tiledL (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).2.1 S2x24x4096.size (by sl_kernel_rfl) y
  rw [View.read_writes_eq_canon _ _ _ cover]
  funext y
  exact View.canon_apply_of_pieces _ _ (ucode_pieces_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1) y (cover y)

end
end

end Cert.InProjIdeal.Hand

end
-- ==== Proof.InIdRuns.lean ====
/- One point of `InProjIdeal` with the values named: the first point stores the codes and the scales and a block, the
   points between store a block from the codes and the scales they find;
   every point stores its block of the codes, the last the step sizes. -/
module

public import proofs.«01_k».proof.Proof.InIdVal
public import proofs.«01_k».proof.Proof.InIdBody

@[expose] public section

set_option maxRecDepth 16384

noncomputable section

namespace Cert.InProjIdeal.Hand

open Cert.InProjIdeal Cert.InProjIdeal.Gen Cert.InMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer that reads as `X` is owned at `X`. -/
theorem owns_of_read {sp : Space} {s : Shape} {e : EltTy} (c : Dev nD) (a : Memref sig .tc sp s e) (g : a.view.ty.Contents (Elt Ideal)) (X : s.Idx → Elt Ideal e)
    (h : a.view.read (Elt Ideal) g = X) : (iprop(a.view.loc (c : Thread nD τ) ↦[a.view.set]{fullShare} g) : sProp 𝕄) ⊢ owns (c : Thread nD τ) a fullShare X := by
  unfold owns
  iintro H
  iexists g
  isplitr; · ipureintro; exact h
  iexact H

section
variable (c : Dev nD) (i : grid0.Coords)
    (arg1 : Memref sig .tc .smem S40x7 .i32) (harg1 : arg1.IsWhole)
    (arg2 : Memref sig .tc .smem S40 .i32) (harg2 : arg2.IsWhole)
    (arg3 : Memref sig .tc .vmem S960x4096 .bf16) (harg3 : arg3.IsWhole)
    (arg4 : Memref sig .tc .vmem S1x4096 .f32) (harg4 : arg4.IsWhole)
    (arg5 : Memref sig .tc .vmem S4096x512 .i8) (harg5 : arg5.IsWhole)
    (arg6 : Memref sig .tc .vmem S1x512 .f32) (harg6 : arg6.IsWhole)
    (arg7 : Memref sig .tc .vmem S1x32 .f32) (harg7 : arg7.IsWhole)
    (arg8 : Memref sig .tc .vmem S1x32 .f32) (harg8 : arg8.IsWhole)
    (arg9 : Memref sig .tc .vmem S4x2048x128 .fp8e4m3) (harg9 : arg9.IsWhole)
    (arg10 : Memref sig .tc .vmem S4x32x64 .f32) (harg10 : arg10.IsWhole)
    (arg11 : Memref sig .tc .vmem S40x24x2048 .i8) (harg11 : arg11.IsWhole)
    (arg12 : Memref sig .tc .vmem S40x24x32 .f32) (harg12 : arg12.IsWhole)
    (arg13 : Memref sig .tc .vmem S40x24x2x128 .i8) (harg13 : arg13.IsWhole)
    (arg14 : Memref sig .tc .vmem S40x24x2 .f32) (harg14 : arg14.IsWhole)
    (arg15 : Memref sig .tc .vmem S40x24x32 .f32) (harg15 : arg15.IsWhole)
    (arg16 : Memref sig .tc .vmem S960x512 .f32) (harg16 : arg16.IsWhole)
    (arg17 : Memref sig .tc .vmem S960x512 .bf16) (harg17 : arg17.IsWhole)
    (arg18 : Memref sig .tc .vmem S960x32 .f32) (harg18 : arg18.IsWhole)
    (arg19 : Memref sig .tc .vmem S4x24x4096 .i8) (harg19 : arg19.IsWhole)
    (arg20 : Memref sig .tc .vmem S40x24 .f32) (harg20 : arg20.IsWhole)
    (arg21 : Memref sig .tc .vmem S4x2048x128 .fp8e4m3) (harg21 : arg21.IsWhole)
    (arg22 : Memref sig .tc .vmem S4x32x64 .f32) (harg22 : arg22.IsWhole)
    (arg23 : Memref sig .tc .vmem S4x16x128 .f32) (harg23 : arg23.IsWhole)
    (arg24 : Memref sig .tc .vmem S960x4096 .bf16) (harg24 : arg24.IsWhole)
    (arg25 : Memref sig .tc .vmem S960x128 .f32) (harg25 : arg25.IsWhole)
    (arg26 : Memref sig .tc .vmem S320x2048 .f32) (harg26 : arg26.IsWhole)
    (arg27 : Memref sig .tc .vmem S2x320x128 .f32) (harg27 : arg27.IsWhole)

set_option maxHeartbeats 4000000 in
/-- The rest of the body before the last point. -/
theorem rest_run (hc1 : cond0_1 i) (hc2 : ¬cond0_2 i)
    (x0 : Vec Ideal S40x7 .i32) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32) (xs0 : Vec Ideal S960x4096 .bf16) (xs1 : Vec Ideal S960x128 .f32) :
    ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare (blkP xs0 xs1 x4 x5)
            ∗ owns (c : Thread nD τ) arg17 fullShare (blkP xs0 xs1 x4 x5)
            ∗ (∃ d, owns (c : Thread nD τ) arg18 fullShare d)
            ∗ owns (c : Thread nD τ) arg19 fullShare (blkU xs0 (i 0).val)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)) -∗ K ⟨⟩))
          ⊢ wp frame (wpE (defs₀ (F := Ideal)) Variants.none c none) E (rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  intro E K
  iintro ⟨H0, H1, H2, H3, H4, H5, H6, H7, H8, H9, H10, H11, H12, H13, H14, H15, H16, H17, H18, H19, H20, H21, H22, HS0, HS1, HS2, HS3, Hk⟩
  iapply ((runR (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, ⟨%f15, H15⟩, ⟨%f16, H16⟩, H17, ⟨%f18, H18⟩, H19, H20, H21, H22, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (owns_of_read c arg16 _ _ (proj_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1 f15)); iexact H15
  isplitl [H16]; · iapply (owns_of_read c arg17 _ _ (xbcn_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1 f16)); iexact H16
  isplitl [H17]; · iexact H17
  isplitl [H18]; · iapply (owns_of_read c arg19 _ _ (ucode_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1 f18)); iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  iexact HS3

set_option maxHeartbeats 4000000 in
/-- A point between the first and the last. -/
theorem runMid (hc0 : ¬cond0_0 i) (hc1 : cond0_1 i) (hc2 : ¬cond0_2 i)
    (x0 : Vec Ideal S40x7 .i32) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32) (xs0 : Vec Ideal S960x4096 .bf16) (xs1 : Vec Ideal S960x128 .f32) :
    ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare (blkP xs0 xs1 x4 x5)
            ∗ owns (c : Thread nD τ) arg17 fullShare (blkP xs0 xs1 x4 x5)
            ∗ (∃ d, owns (c : Thread nD τ) arg18 fullShare d)
            ∗ owns (c : Thread nD τ) arg19 fullShare (blkU xs0 (i 0).val)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)) -∗ K ⟨⟩))
          ⊢ wp frame (wpE (defs₀ (F := Ideal)) Variants.none c none) E (cc0_in_proj_replay (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  intro E K
  have e : first (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = pure ⟨⟩ := by
    unfold first
    dsimp only
    rw [dif_neg hc0]
  rw [body_eq, e, Prog.pure_eq_ret, Prog.bind_ret]
  exact rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0 x1 x2 x3 x4 x5 x6 x7 x8 x9 x10 x11 x12 x13 x14 xs0 xs1 E K

set_option maxHeartbeats 4000000 in
/-- The last point. -/
theorem runLast (hc0 : ¬cond0_0 i) (hc1 : ¬cond0_1 i) (hc2 : cond0_2 i)
    (x0 : Vec Ideal S40x7 .i32) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32) (d15 : Vec Ideal S960x512 .f32) (d16 : Vec Ideal S960x512 .bf16) (xs0 : Vec Ideal S960x4096 .bf16) (xs1 : Vec Ideal S960x128 .f32) :
    ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare d15
            ∗ owns (c : Thread nD τ) arg17 fullShare d16
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare d15
            ∗ owns (c : Thread nD τ) arg17 fullShare d16
            ∗ owns (c : Thread nD τ) arg18 fullShare (blkT xs0 xs1 x4 x5 x6)
            ∗ owns (c : Thread nD τ) arg19 fullShare (blkU xs0 (i 0).val)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare xs0
            ∗ owns (c : Thread nD τ) arg25 fullShare xs1
            ∗ (∃ d, owns (c : Thread nD τ) arg26 fullShare d)
            ∗ (∃ d, owns (c : Thread nD τ) arg27 fullShare d)) -∗ K ⟨⟩))
          ⊢ wp frame (wpE (defs₀ (F := Ideal)) Variants.none c none) E (cc0_in_proj_replay (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  intro E K
  iintro ⟨H0, H1, H2, H3, H4, H5, H6, H7, H8, H9, H10, H11, H12, H13, H14, H15, H16, H17, H18, H19, H20, H21, H22, HS0, HS1, HS2, HS3, Hk⟩
  iapply ((runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, ⟨%f17, H17⟩, ⟨%f18, H18⟩, H19, H20, H21, H22, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iapply (owns_of_read c arg18 _ _ (dt_read_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1 f17)); iexact H17
  isplitl [H18]; · iapply (owns_of_read c arg19 _ _ (ucode_read_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14 d15 d16 xs0 xs1 f18)); iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  iexact HS3

set_option maxHeartbeats 4000000 in
/-- The first point. -/
theorem runFirst (hc0 : cond0_0 i) (hc1 : cond0_1 i) (hc2 : ¬cond0_2 i)
    (x0 : {x : Vec Ideal S40x7 .i32 // Rows x}) (x1 : Vec Ideal S40 .i32) (x2 : Vec Ideal S960x4096 .bf16) (x3 : Vec Ideal S1x4096 .f32) (x4 : Vec Ideal S4096x512 .i8) (x5 : Vec Ideal S1x512 .f32) (x6 : Vec Ideal S1x32 .f32) (x7 : Vec Ideal S1x32 .f32) (x8 : Vec Ideal S4x2048x128 .fp8e4m3) (x9 : Vec Ideal S4x32x64 .f32) (x10 : Vec Ideal S40x24x2048 .i8) (x11 : Vec Ideal S40x24x32 .f32) (x12 : Vec Ideal S40x24x2x128 .i8) (x13 : Vec Ideal S40x24x2 .f32) (x14 : Vec Ideal S40x24x32 .f32) :
    ∀ (E : Set ℕ) (K : PUnit → sProp 𝕄),
        iprop(owns (c : Thread nD τ) arg1 fullShare x0.1
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)
            ∗ (∃ d, owns (c : Thread nD τ) arg27 fullShare d)
            ∗ (iprop(owns (c : Thread nD τ) arg1 fullShare x0.1
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare (blkP (scU x2 x3) (scS x2 x3) x4 x5)
            ∗ owns (c : Thread nD τ) arg17 fullShare (blkP (scU x2 x3) (scS x2 x3) x4 x5)
            ∗ (∃ d, owns (c : Thread nD τ) arg18 fullShare d)
            ∗ owns (c : Thread nD τ) arg19 fullShare (blkU (scU x2 x3) (i 0).val)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ owns (c : Thread nD τ) arg24 fullShare (scU x2 x3)
            ∗ owns (c : Thread nD τ) arg25 fullShare (scS x2 x3)
            ∗ (∃ d, owns (c : Thread nD τ) arg26 fullShare d)
            ∗ (∃ d, owns (c : Thread nD τ) arg27 fullShare d)) -∗ K ⟨⟩))
          ⊢ wp frame (wpE (defs₀ (F := Ideal)) Variants.none c none) E (cc0_in_proj_replay (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  intro E K
  rw [body_eq, wp_bind]
  iintro ⟨H0, H1, H2, H3, H4, H5, H6, H7, H8, H9, H10, H11, H12, H13, H14, H15, H16, H17, H18, H19, H20, H21, H22, HS0, HS1, HS2, HS3, Hk⟩
  iapply ((runH (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14).2.2 E (fun _ => wp frame (wpE (defs₀ (F := Ideal)) Variants.none c none) E (rest (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, ⟨%f23, HS0⟩, ⟨%f24, HS1⟩, HS2, HS3⟩
  iapply (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc1 hc2 x0.1 x1 x2 x3 x4 x5 x6 x7 x8 x9 x10 x11 x12 x13 x14 (scU x2 x3) (scS x2 x3) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iapply (owns_of_read c arg24 _ _ (codes_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 f23)); iexact HS0
  isplitl [HS1]; · iapply (owns_of_read c arg25 _ _ (scales_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 f24)); iexact HS1
  isplitl [HS2]; · iexact HS2
  isplitl [HS3]; · iexact HS3
  iexact Hk

end

end Cert.InProjIdeal.Hand

end
-- ==== Proof.InIdFrame.lean ====
/- The run of `InProjIdeal` at the ideal reading: the body's triple at each point of the grid put under the launch, so
   every run ends with the projection, its narrow copy, the step sizes and the codes in their arrays, the arguments unchanged and every counter at
   zero. -/
module

public import proofs.«01_k».proof.Proof.InIdRes
public import proofs.«01_k».proof.Proof.InIdRuns

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body must leave of the projection's buffer: the block of the point, at the last point too. -/

theorem stay15 : ∀ t : Fin cfg0.N, ¬t.val < 9 → cfg0.idle 15 (cfg0.grid.coords t) = true :=
  (by decide +kernel : ∀ t : Fin grid0.N, ¬t.val < 9 → idle0 15 (grid0.coords t) = true)
theorem leaves15 (c : Dev nD) (t : Fin cfg0.N) : (dats m 0 c).leaves 15 t = owns (c : Thread nD τ) (ms0_15 t) fullShare (blkG m c t.val) := by
  have hN : t.val < 10 := lt_of_lt_of_eq t.isLt (show cfg0.N = 10 from N_0)
  unfold Dat.leaves
  by_cases h : t.val < 9
  · rw [live15 t h, after0_15]
  · rw [stay15 t h, (flush15 t).mpr (by omega), after0_15]

theorem stay16 : ∀ t : Fin cfg0.N, ¬t.val < 9 → cfg0.idle 16 (cfg0.grid.coords t) = true :=
  (by decide +kernel : ∀ t : Fin grid0.N, ¬t.val < 9 → idle0 16 (grid0.coords t) = true)
theorem leaves16 (c : Dev nD) (t : Fin cfg0.N) : (dats m 0 c).leaves 16 t = owns (c : Thread nD τ) (ms0_16 t) fullShare (blkG m c t.val) := by
  have hN : t.val < 10 := lt_of_lt_of_eq t.isLt (show cfg0.N = 10 from N_0)
  unfold Dat.leaves
  by_cases h : t.val < 9
  · rw [live16 t h, after0_16]
  · rw [stay16 t h, (flush16 t).mpr (by omega), after0_16]

theorem leaves18 (c : Dev nD) (t : Fin cfg0.N) : (dats m 0 c).leaves 18 t = owns (c : Thread nD τ) (ms0_18 t) fullShare (uG m c t.val) := by
  unfold Dat.leaves
  rw [live18 t, after0_18]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare (win0_4.fill (grid0.coords t) d (win0_4.cut (grid0.coords t) ((dats m 0 c).after 4 t))))
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (dats m 0 c).leaves 15 t
    ∗ (dats m 0 c).leaves 16 t
    ∗ (dats m 0 c).leaves 17 t
    ∗ (dats m 0 c).leaves 18 t
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d))

variable (hR : ∀ c t, Rows (iblk m c 0 t))

set_option maxHeartbeats 4000000 in
include hR in
/-- The first point. -/
theorem at_first (c : Dev nD) (t : Fin cfg0.N) (h : t.val = 0) (d4 : Vec Ideal S4096x512 .i8) (d5 : Vec Ideal S1x512 .f32) (d15 d16 : S960x512.Idx → EReal) (K : PUnit → sProp 𝕄) :
    iprop(PhiS m c t.val
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare d15
    ∗ owns (c : Thread nD τ) (ms0_16 t) fullShare d16
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (iprop(PhiS m c (t.val + 1)
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (blkG m c t.val)
    ∗ owns (c : Thread nD τ) (ms0_16 t) fullShare (blkG m c t.val)
    ∗ (dats m 0 c).leaves 17 t
    ∗ owns (c : Thread nD τ) (ms0_18 t) fullShare (uG m c t.val)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)) -∗ K ⟨⟩))
    ⊢ wp frame (wpE (defs₀ (F := Ideal)) Variants.none c none) Set.univ (bodyAt0 t) K := by
  have hN : t.val < 10 := lt_of_lt_of_eq t.isLt (show cfg0.N = 10 from N_0)
  have := runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr (by omega)) ((hcond0_1 t).mpr (by omega)) (fun h' => absurd ((hcond0_2 t).mp h') (by omega)) ⟨iblk m c 0 t, hR c t⟩ (iblk m c 1 t) (iblk m c 2 t) (iblk m c 3 t) (X4 m c t d4) (X5 m c t d5) (iblk m c 6 t) (iblk m c 7 t) (iblk m c 8 t) (iblk m c 9 t) (iblk m c 10 t) (iblk m c 11 t) (iblk m c 12 t) (iblk m c 13 t) (iblk m c 14 t) Set.univ K
  rw [scrU_eq m c t, scrS_eq m c t, blk_eq m c t (by omega) d4 d5, coord0, blkU_eq m c t.val hN] at this
  rw [PhiS_end m c t.val (.inl h), PhiA0_eq, PhiS_pos m c (t.val + 1) (by omega) (by omega)]
  unfold bodyAt0
  iintro ⟨⟨⟨HS0, HS1, HS2, HS3⟩, Hg⟩, H0, H1, H2, H3, H4, H5, H6, H7, H8, H9, H10, H11, H12, H13, H14, H15, H16, H17, H18, H19, H20, H21, H22, Hk⟩
  iapply this
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, HS0, HS1, HS2, HS3⟩
  iapply Hk
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iapply (leaves17_pos m c t (by omega)); iexact H17
  isplitl [H18]; · iexact H18
  isplitl [H19]; · iexact H19
  isplitl [H20]; · iexact H20
  isplitl [H21]; · iexact H21
  iexact H22

set_option maxHeartbeats 4000000 in
/-- The points between. -/
theorem at_mid (c : Dev nD) (t : Fin cfg0.N) (h : t.val ≠ 0) (h9 : t.val < 9) (d4 : Vec Ideal S4096x512 .i8) (d5 : Vec Ideal S1x512 .f32) (d15 d16 : S960x512.Idx → EReal) (K : PUnit → sProp 𝕄) :
    iprop(PhiS m c t.val
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare d15
    ∗ owns (c : Thread nD τ) (ms0_16 t) fullShare d16
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (iprop(PhiS m c (t.val + 1)
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (blkG m c t.val)
    ∗ owns (c : Thread nD τ) (ms0_16 t) fullShare (blkG m c t.val)
    ∗ (dats m 0 c).leaves 17 t
    ∗ owns (c : Thread nD τ) (ms0_18 t) fullShare (uG m c t.val)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)) -∗ K ⟨⟩))
    ⊢ wp frame (wpE (defs₀ (F := Ideal)) Variants.none c none) Set.univ (bodyAt0 t) K := by
  have hN : t.val < 10 := lt_of_lt_of_eq t.isLt (show cfg0.N = 10 from N_0)
  have := runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h' => absurd ((hcond0_0 t).mp h') (by omega)) ((hcond0_1 t).mpr h9) (fun h' => absurd ((hcond0_2 t).mp h') (by omega)) (iblk m c 0 t) (iblk m c 1 t) (iblk m c 2 t) (iblk m c 3 t) (X4 m c t d4) (X5 m c t d5) (iblk m c 6 t) (iblk m c 7 t) (iblk m c 8 t) (iblk m c 9 t) (iblk m c 10 t) (iblk m c 11 t) (iblk m c 12 t) (iblk m c 13 t) (iblk m c 14 t) (scrU m c) (scrS m c) Set.univ K
  rw [blk_eq m c t h9 d4 d5, coord0, blkU_eq m c t.val hN] at this
  rw [PhiS_pos m c t.val h (by omega), PhiS_pos m c (t.val + 1) (by omega) (by omega)]
  unfold bodyAt0
  iintro ⟨⟨⟨HS0, HS1, HS2, HS3⟩, Hg⟩, H0, H1, H2, H3, H4, H5, H6, H7, H8, H9, H10, H11, H12, H13, H14, H15, H16, H17, H18, H19, H20, H21, H22, Hk⟩
  iapply this
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, HS0, HS1, HS2, HS3⟩
  iapply Hk
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iapply (leaves17_pos m c t (by omega)); iexact H17
  isplitl [H18]; · iexact H18
  isplitl [H19]; · iexact H19
  isplitl [H20]; · iexact H20
  isplitl [H21]; · iexact H21
  iexact H22

set_option maxHeartbeats 4000000 in
/-- The last point. -/
theorem at_last (c : Dev nD) (t : Fin cfg0.N) (h : t.val = 9) (d4 : Vec Ideal S4096x512 .i8) (d5 : Vec Ideal S1x512 .f32) (K : PUnit → sProp 𝕄) :
    iprop(PhiS m c t.val
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (blkG m c t.val)
    ∗ owns (c : Thread nD τ) (ms0_16 t) fullShare (blkG m c t.val)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (iprop(PhiS m c (t.val + 1)
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (blkG m c t.val)
    ∗ owns (c : Thread nD τ) (ms0_16 t) fullShare (blkG m c t.val)
    ∗ (dats m 0 c).leaves 17 t
    ∗ owns (c : Thread nD τ) (ms0_18 t) fullShare (uG m c t.val)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)) -∗ K ⟨⟩))
    ⊢ wp frame (wpE (defs₀ (F := Ideal)) Variants.none c none) Set.univ (bodyAt0 t) K := by
  have hN : t.val < 10 := lt_of_lt_of_eq t.isLt (show cfg0.N = 10 from N_0)
  have := runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h' => absurd ((hcond0_0 t).mp h') (by omega)) (fun h' => absurd ((hcond0_1 t).mp h') (by omega)) ((hcond0_2 t).mpr (by omega)) (iblk m c 0 t) (iblk m c 1 t) (iblk m c 2 t) (iblk m c 3 t) (X4 m c t d4) (X5 m c t d5) (iblk m c 6 t) (iblk m c 7 t) (iblk m c 8 t) (iblk m c 9 t) (iblk m c 10 t) (iblk m c 11 t) (iblk m c 12 t) (iblk m c 13 t) (iblk m c 14 t) (blkG m c t.val) (blkG m c t.val) (scrU m c) (scrS m c) Set.univ K
  rw [blkT_eq m c t h d4 d5, coord0, blkU_eq m c t.val hN] at this
  rw [leaves17_last m c t h]
  rw [PhiS_pos m c t.val (by omega) (by omega), PhiS_end m c (t.val + 1) (.inr (by omega)), PhiA0_eq]
  unfold bodyAt0
  iintro ⟨⟨⟨HS0, HS1, HS2, HS3⟩, Hg⟩, H0, H1, H2, H3, H4, H5, H6, H7, H8, H9, H10, H11, H12, H13, H14, H15, H16, H17, H18, H19, H20, H21, H22, Hk⟩
  iapply this
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, HS0, HS1, HS2, HS3⟩
  iapply Hk
  isplitl [HS0 HS1 HS2 HS3 Hg]
  · isplitl [HS0 HS1 HS2 HS3]
    · isplitl [HS0]; · iexists _; iexact HS0
      isplitl [HS1]; · iexists _; iexact HS1
      isplitl [HS2]; · iexact HS2
      iexact HS3
    iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
include hR in
/-- Any point. -/
theorem run_at (c : Dev nD) (t : Fin cfg0.N) (d4 : Vec Ideal S4096x512 .i8) (d5 : Vec Ideal S1x512 .f32) (d15 d16) (K : PUnit → sProp 𝕄) :
    iprop(PhiS m c t.val
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare ((dats m 0 c).before 15 t d15)
    ∗ owns (c : Thread nD τ) (ms0_16 t) fullShare ((dats m 0 c).before 16 t d16)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (iprop(PhiS m c (t.val + 1)
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (X4 m c t d4)
    ∗ owns (c : Thread nD τ) (ms0_5 t) fullShare (X5 m c t d5)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (blkG m c t.val)
    ∗ owns (c : Thread nD τ) (ms0_16 t) fullShare (blkG m c t.val)
    ∗ (dats m 0 c).leaves 17 t
    ∗ owns (c : Thread nD τ) (ms0_18 t) fullShare (uG m c t.val)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)) -∗ K ⟨⟩))
    ⊢ wp frame (wpE (defs₀ (F := Ideal)) Variants.none c none) Set.univ (bodyAt0 t) K := by
  have hN : t.val < 10 := lt_of_lt_of_eq t.isLt (show cfg0.N = 10 from N_0)
  by_cases h0 : t.val = 0
  · exact at_first m hR c t h0 d4 d5 _ _ K
  · by_cases h9 : t.val < 9
    · exact at_mid m c t h0 h9 d4 d5 _ _ K
    · have h : t.val = 9 := by omega
      rw [kept15 m c t h d15, kept16 m c t h d16, show blkG m c 9 = blkG m c t.val from by rw [h]]
      exact at_last m c t h d4 d5 K

set_option maxHeartbeats 4000000 in
include hR in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, after0_0, after0_1, after0_2, after0_3, after0_6, after0_7, after0_8, after0_9, after0_10, after0_11, after0_12, after0_13, after0_14]
  rw [leaves15, leaves16, leaves18, show (dats m 0 c).owesAt () t.succ = (dats m 0 c).owesAt () t.castSucc from rfl,
    show (dats m 0 c).Φ t.castSucc = PhiS m c t.val from rfl, show (dats m 0 c).Φ t.succ = PhiS m c (t.val + 1) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22⟩
  iapply (run_at m hR c t d4 d5 d15 d16 _)
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexact H19
  isplitl [H20]; · iexact H20
  isplitl [H21]; · iexact H21
  isplitl [H22]; · iexact H22
  iintro ⟨HP, H0, H1, H2, H3, H4, H5, H6, H7, H8, H9, H10, H11, H12, H13, H14, H15, H16, H17, H18, H19, H20, H21, H22⟩
  isplitl [HP]; · iexact HP
  isplitl [Ho]; · iexact Ho
  isplitl [H0]; · iexact H0
  isplitl [H1]; · iexact H1
  isplitl [H2]; · iexact H2
  isplitl [H3]; · iexact H3
  isplitl [H4]; · iapply (back4 m c t); iexists d4; iexact H4
  isplitl [H5]; · iapply (back5 m c t); iexists d5; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := Ideal) .tc cfg0.body (cfg0.bodyArgs t (cfg0.slots t)) = bodyAt0 t := by
  unfold defs₀; rw [Defs.onTc_tc]

include hR in
theorem body_obligation (c : Dev nD) : BodyObligationLoose (dats m 0 c) (defs₀ (F := Ideal)) Variants.none () Set.univ forgets0 := fun t => by
  rw [bigSep_W0, bigSep_W0, defs₀_row]
  exact triple_restated (sound_body m hR c t) rfl .rfl fun _ => .rfl

/-! ## The run -/

set_option backward.isDefEq.respectTransparency.types false in
include hR in
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => body_obligation m hR c) (hshare := fun c => (dats m 0 c).share_full fun _ => rfl)
    (howed := fun _ _ => rfl) (V := V m) (hmain := hmain m Variants.none) (hA := A_eq m)
    (hin := fun c => by rw [show (dats m 0 c).Φ 0 = PhiS m c 0 from rfl, PhiS_end m c 0 (.inl rfl)])
    (hout := fun c => by
      rw [show (dats m 0 c).Φ (Fin.last cfg0.N) = PhiS m c cfg0.N from rfl, PhiS_end m c cfg0.N (.inr (show 10 ≤ cfg0.N from N_0.ge))])

include hR in
/-- Every run ends with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (Pipeline.RDat.FramePost.arr_in h.1 c 9 rfl).trans ((A_eq m c 9).trans (V_main_arg7 m c)),
      (Pipeline.RDat.FramePost.arr_in h.1 c 10 rfl).trans ((A_eq m c 10).trans (V_main_arg8 m c)),
      (Pipeline.RDat.FramePost.arr_in h.1 c 11 rfl).trans ((A_eq m c 11).trans (V_main_arg9 m c)),
      (Pipeline.RDat.FramePost.arr_in h.1 c 12 rfl).trans ((A_eq m c 12).trans (V_main_arg10 m c)),
      (Pipeline.RDat.FramePost.arr_in h.1 c 13 rfl).trans ((A_eq m c 13).trans (V_main_arg11 m c)),
      (Pipeline.RDat.FramePost.arr_in h.1 c 14 rfl).trans ((A_eq m c 14).trans (V_main_arg12 m c)),
      (Pipeline.RDat.FramePost.arr_in h.1 c 0 rfl).trans ((A_eq m c 0).trans (V_main_arg13 m c)),
      (Pipeline.RDat.FramePost.arr_in h.1 c 1 rfl).trans ((A_eq m c 1).trans (V_main_arg14 m c))⟩, h.2⟩)
    (run_main_quiescent m ρ hR)

include hR in
/-- Every run ends with the projection of the arguments in the first array, its columns from 2048 in the second,
    the step sizes in the third and the codes in the fourth. -/
theorem run : θ_run defs (onTc (τ := τ) (main (F := Ideal))) ⟨m, fun _ => 0, ρ⟩ (fun r => ∀ c : Dev nD,
      r.2.mem ((c.tc : Thread nD τ).loc main_v6_0) = res4 m c
      ∧ r.2.mem ((c.tc : Thread nD τ).loc main_v6_1) = res5 m c
      ∧ r.2.mem ((c.tc : Thread nD τ).loc main_v6_2) = dtR m c
      ∧ r.2.mem ((c.tc : Thread nD τ).loc main_v6_3) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(((dats m 0 c).toRForget_arrAt_iff (fgt := forgets0) (w := 15) rfl cfg0.N _).mp ((h.1 c).1 15)).trans (final15 m c),
      (((dats m 0 c).toRForget_arrAt_iff (fgt := forgets0) (w := 16) rfl cfg0.N _).mp ((h.1 c).1 16)).trans (final16 m c),
      (((dats m 0 c).toRForget_arrAt_iff (fgt := forgets0) (w := 17) rfl cfg0.N _).mp ((h.1 c).1 17)).trans (final17 m c),
      (((dats m 0 c).toRForget_arrAt_iff (fgt := forgets0) (w := 18) rfl cfg0.N _).mp ((h.1 c).1 18)).trans (final18 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (Pipeline.RDat.FramePost.arr_in h.1 c 9 rfl).trans ((A_eq m c 9).trans (V_main_arg7 m c)),
      (Pipeline.RDat.FramePost.arr_in h.1 c 10 rfl).trans ((A_eq m c 10).trans (V_main_arg8 m c)),
      (Pipeline.RDat.FramePost.arr_in h.1 c 11 rfl).trans ((A_eq m c 11).trans (V_main_arg9 m c)),
      (Pipeline.RDat.FramePost.arr_in h.1 c 12 rfl).trans ((A_eq m c 12).trans (V_main_arg10 m c)),
      (Pipeline.RDat.FramePost.arr_in h.1 c 13 rfl).trans ((A_eq m c 13).trans (V_main_arg11 m c)),
      (Pipeline.RDat.FramePost.arr_in h.1 c 14 rfl).trans ((A_eq m c 14).trans (V_main_arg12 m c)),
      (Pipeline.RDat.FramePost.arr_in h.1 c 0 rfl).trans ((A_eq m c 0).trans (V_main_arg13 m c)),
      (Pipeline.RDat.FramePost.arr_in h.1 c 1 rfl).trans ((A_eq m c 1).trans (V_main_arg14 m c))⟩)
    (run_main_quiescent m ρ hR)

end Cert.InProjIdeal.Hand

end
-- ==== Proof.InRefVal.lean ====
/- The reference of the in-projection, run: its results are the closed forms of InMath. -/
module

public import proofs.«01_k».proof.Proof.InMath
public import proofs.«01_k».proof.Proof.Gen.InRefIdeal.Frame
public import Idealize.ShloMosaic.Lib.Pipeline.ValueKit

@[expose] public section

set_option maxRecDepth 16384

noncomputable section

namespace Cert.InRefIdeal.Hand

open Cert.InRefIdeal Cert.InRefIdeal.Gen Cert.InMath
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

theorem sitofp_eq (b : BitVec 8) : (FloatOps.sitofp (F := Ideal) .bf16 b : EReal) = ((b.toInt : ℝ) : EReal) := rfl

/-! ## The body's values, element by element -/

/-- Row `r` of a block of 960 rows. -/
def brow (x : Vec Ideal S960x4096 .bf16) (r : Fin 960) : Fin 4096 → EReal := fun j => x (ix2 r j)
def nrow (w : Vec Ideal S1x4096 .f32) : Fin 4096 → EReal := fun j => w (ix2 (0 : Fin 1) j)

/-- The normalised rows. -/
def stU (v0 : Vec Ideal S960x4096 .bf16) (v13 : Vec Ideal S1x4096 .f32) : FVec Ideal S960x4096 .f32 :=
  have v1 : FVec Ideal S960x4096 .bf16 := shapeCast S960x4096 v0 shapeCasts_S960x4096_S960x4096
  have v2 : FVec Ideal S960x4096 .f32 := extf .f32 v1 bitsLt_bf16_f32
  have v3 : FVec Ideal S960x4096 .f32 := mulf v2 v2
  have v4 : FVec Ideal S960 .f32 := multiReduction .add [1] S960 v3 0x00000000#32 reduces_S960x4096_S960 (.inl rfl) rfl
  have v5 : FVec Ideal S960x1 .f32 := shapeCast S960x1 v4 shapeCasts_S960_S960x1
  have cst_1 : Ideal .f32 := Scalar.ofBits .f32 0x45800000#32
  have v6 : FVec Ideal S960x1 .f32 := broadcast S960x1 cst_1
  have v7 : FVec Ideal S960x1 .f32 := divf v5 v6
  have cst_2 : Ideal .f32 := Scalar.ofBits .f32 0x3727C5AC#32
  have v8 : FVec Ideal S960x1 .f32 := broadcast S960x1 cst_2
  have v9 : FVec Ideal S960x1 .f32 := addf v7 v8
  have v10 : FVec Ideal S960x1 .f32 := sqrt v9
  have v11 : FVec Ideal S960x4096 .f32 := broadcastTo S960x4096 v10 broadcasts_S960x1_S960x4096
  have v12 : FVec Ideal S960x4096 .f32 := divf v2 v11
  have v14 : FVec Ideal S1x4096 .f32 := shapeCast S1x4096 v13 shapeCasts_S1x4096_S1x4096
  have v15 : FVec Ideal S960x4096 .f32 := broadcastTo S960x4096 v14 broadcasts_S1x4096_S960x4096
  have v16 : FVec Ideal S960x4096 .f32 := mulf v12 v15
  v16

/-- Each row's largest absolute value. -/
def stM (v16 : FVec Ideal S960x4096 .f32) : FVec Ideal S960 .f32 :=
  have v17 : FVec Ideal S960x4096 .f32 := absf v16
  have v18 : FVec Ideal S960 .f32 := multiReduction .maximumf [1] S960 v17 0xFF800000#32 reduces_S960x4096_S960 (.inl rfl) rfl
  v18

/-- Each row's scale. -/
def stS (v18 : FVec Ideal S960 .f32) : FVec Ideal S960x1 .f32 :=
  have v19 : FVec Ideal S960x1 .f32 := shapeCast S960x1 v18 shapeCasts_S960_S960x1
  have cst_6 : Ideal .f32 := Scalar.ofBits .f32 0x00000000#32
  have v20 : FVec Ideal S960x1 .f32 := broadcast S960x1 cst_6
  have v21 : IVec S960x1 1 := cmpf .oeq v19 v20
  have cst_7 : Ideal .f32 := Scalar.ofBits .f32 0x42FE0000#32
  have v22 : FVec Ideal S960x1 .f32 := broadcast S960x1 cst_7
  have v23 : FVec Ideal S960x1 .f32 := divf v19 v22
  have cst_8 : Ideal .f32 := Scalar.ofBits .f32 0x3F800000#32
  have v24 : FVec Ideal S960x1 .f32 := broadcast S960x1 cst_8
  have v25 : FVec Ideal S960x1 .f32 := select v21 v24 v23
  v25

/-- The codes. -/
def stC (v16 : FVec Ideal S960x4096 .f32) (v25 : FVec Ideal S960x1 .f32) : IVec S960x4096 8 :=
  have v26 : FVec Ideal S960x4096 .f32 := broadcastTo S960x4096 v25 broadcasts_S960x1_S960x4096
  have v27 : FVec Ideal S960x4096 .f32 := divf v16 v26
  have v28 : FVec Ideal S960x4096 .f32 := roundeven v27
  have cst_9 : Ideal .f32 := Scalar.ofBits .f32 0xC2FE0000#32
  have cst_10 : Ideal .f32 := Scalar.ofBits .f32 0x42FE0000#32
  have v29 : FVec Ideal S960x4096 .f32 := broadcast S960x4096 cst_9
  have v30 : FVec Ideal S960x4096 .f32 := maximumf v29 v28
  have v31 : FVec Ideal S960x4096 .f32 := broadcast S960x4096 cst_10
  have v32 : FVec Ideal S960x4096 .f32 := minimumf v31 v30
  have v33 : IVec S960x4096 8 := fptosi 8 v32
  v33

/-- The codes' product with the weights', scaled by the row's scale. -/
def stP (v33 : IVec S960x4096 8) (v35 : Vec Ideal S4096x4640 .i8) (v25 : FVec Ideal S960x1 .f32) : FVec Ideal S960x4640 .f32 :=
  have v34 : FVec Ideal S960x4096 .bf16 := sitofp .bf16 v33
  have v36 : FVec Ideal S4096x4640 .bf16 := sitofp .bf16 v35
  have cst_13 : FVec Ideal S960x4640 .f32 := constant S960x4640 .f32 0x00000000#32
  have v37 : FVec Ideal S960x4640 .f32 := matmul dot_S960x4096_S4096x4640_S960x4640_1_0_0_1_n_n none v34 v36 cst_13
  have v38 : FVec Ideal S960x4640 .f32 := broadcastTo S960x4640 v25 broadcasts_S960x1_S960x4640
  have v39 : FVec Ideal S960x4640 .f32 := mulf v37 v38
  v39

theorem pay9_eq (x : Vec Ideal S960x4096 .bf16) (nw : Vec Ideal S1x4096 .f32) (w : Vec Ideal S4096x4640 .i8) :
    k0_pay9 x nw w = stP (stC (stU x nw) (stS (stM (stU x nw)))) w (stS (stM (stU x nw))) := rfl

theorem stU_at (x : Vec Ideal S960x4096 .bf16) (nw : Vec Ideal S1x4096 .f32) (r : Fin 960) (k : Fin 4096) :
    stU x nw (ix2 r k) = nrm (brow x r) (nrow nw) k := by
  pointwise [stU, nrm, meanSq, brow, nrow]

theorem stM_at (v : FVec Ideal S960x4096 .f32) (r : Fin 960) :
    stM v (ix1 r) = Finset.fold max (Ideal.ofBits FTy.f32 4286578688#32) (fun j => FloatOps.absf (F := Ideal) (φ := .f32) (v (ix2 r j))) Finset.univ := by
  pointwise [stM]

theorem stS_at (v : FVec Ideal S960 .f32) (r : Fin 960) (z : Fin 1) :
    stS v (ix2 r z) = if v (ix1 r) = 0 then 1 else Ideal.div (v (ix1 r)) (Ideal.ofBits FTy.f32 1123942400#32) := by
  pointwise [stS]

theorem stC_at (v : FVec Ideal S960x4096 .f32) (s : FVec Ideal S960x1 .f32) (r : Fin 960) (k : Fin 4096) :
    stC v s (ix2 r k) = Ideal.fptosi 8 (min (Ideal.ofBits FTy.f32 1123942400#32) (max (Ideal.ofBits FTy.f32 3271426048#32)
    (Ideal.liftRound Ideal.roundHalfEven (Ideal.div (v (ix2 r k)) (s (ix2 r (0 : Fin 1))))))) := by
  pointwise [stC]
  rfl

theorem stP_at (v : IVec S960x4096 8) (w : Vec Ideal S4096x4640 .i8) (s : FVec Ideal S960x1 .f32) (r : Fin 960) (q : Fin 4640) :
    stP v w s (ix2 r q) = (∑ k, (((v (ix2 r k)).toInt : ℝ) : EReal) * (((w (ix2 k q)).toInt : ℝ) : EReal)) * s (ix2 r (0 : Fin 1)) := by
  pointwise [stP]
  rfl

theorem scl_at (x : Vec Ideal S960x4096 .bf16) (nw : Vec Ideal S1x4096 .f32) (r : Fin 960) (z : Fin 1) :
    stS (stM (stU x nw)) (ix2 r z) = scl (brow x r) (nrow nw) := by
  rw [stS_at, stM_at]
  unfold scl amax
  simp only [stU_at]

theorem cod_at (x : Vec Ideal S960x4096 .bf16) (nw : Vec Ideal S1x4096 .f32) (r : Fin 960) (k : Fin 4096) :
    ((((stC (stU x nw) (stS (stM (stU x nw)))) (ix2 r k)).toInt : ℝ) : EReal) = cod (brow x r) (nrow nw) k := by
  rw [← cod_round, stC_at, stU_at, scl_at]
  unfold cod
  rfl

theorem pay9_at (x : Vec Ideal S960x4096 .bf16) (nw : Vec Ideal S1x4096 .f32) (w : Vec Ideal S4096x4640 .i8) (r : Fin 960) (q : Fin 4640) :
    k0_pay9 x nw w (ix2 r q) = (∑ k, cod (brow x r) (nrow nw) k * (((w (ix2 k q)).toInt : ℝ) : EReal)) * scl (brow x r) (nrow nw) := by
  rw [pay9_eq, stP_at, scl_at]
  simp only [cod_at]

theorem pay10_eq (ws : Vec Ideal S1x4640 .f32) : k0_pay10 ws = ws := funext fun i => by
  idx_vars i
  pointwise [k0_pay10]

theorem pay1_gen (v : FVec Ideal S960x4640 .f32) (ws : FVec Ideal S1x4640 .f32) (r : Fin 960) (q : Fin 4640) :
    k0_pay1 v ws (ix2 r q) = v (ix2 r q) * ws (ix2 (0 : Fin 1) q) := by
  pointwise [k0_pay1]

theorem pay1_at (x : Vec Ideal S960x4096 .bf16) (nw : Vec Ideal S1x4096 .f32) (w : Vec Ideal S4096x4640 .i8) (ws : Vec Ideal S1x4640 .f32) (r : Fin 960) (q : Fin 4640) :
    k0_pay1 (k0_pay9 x nw w) (k0_pay10 ws) (ix2 r q) = dotRow (brow x r) (nrow nw) (fun k => w (ix2 k q)) (ws (ix2 (0 : Fin 1) q)) := by
  rw [pay10_eq, pay1_gen, pay9_at]
  unfold dotRow
  rfl

theorem pay2_gen (v : FVec Ideal S960x4640 .f32) (ws : FVec Ideal S1x4640 .f32) (r : Fin 960) (q : Fin 4608) :
    k0_pay2 v ws (ix2 r q) = k0_pay1 v ws (ix2 r (⟨q.val, by omega⟩ : Fin 4640)) := by
  pointwise [k0_pay2]

theorem pay3_gen (v : FVec Ideal S960x4640 .f32) (ws : FVec Ideal S1x4640 .f32) (r : Fin 960) (q : Fin 2560) :
    k0_pay3 v ws (ix2 r q) = k0_pay1 v ws (ix2 r (⟨2048 + q.val, by omega⟩ : Fin 4640)) := by
  pointwise [k0_pay3]

theorem pay4_gen (v : FVec Ideal S960x4640 .f32) (ws : FVec Ideal S1x4640 .f32) (b : Vec Ideal S1x32 .f32) (r : Fin 960) (q : Fin 32) :
    k0_pay4 v ws b (ix2 r q) = softplus (k0_pay1 v ws (ix2 r (⟨4608 + q.val, by omega⟩ : Fin 4640)) + b (ix2 (0 : Fin 1) q)) := by
  unfold softplus
  pointwise [k0_pay4]

/-! ## The grid's one point -/

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

def t00 : Fin cfg0.N := ⟨0, by decide⟩

theorem t00_only (t : Fin cfg0.N) : t = t00 :=
  Fin.ext (by have h1 : t.val < cfg0.N := t.isLt; have h2 : cfg0.N = 1 := N_0; show t.val = 0; omega)

abbrev X (c : Dev nD) : Vec Ideal S40x24x4096 .bf16 := m ((c : Thread nD τ).loc main_arg0)
abbrev NW (c : Dev nD) : Vec Ideal S4096 .f32 := m ((c : Thread nD τ).loc main_arg1)
abbrev W (c : Dev nD) : Vec Ideal S4096x4640 .i8 := m ((c : Thread nD τ).loc main_arg2)
abbrev WS (c : Dev nD) : Vec Ideal S4640 .f32 := m ((c : Thread nD τ).loc main_arg3)
abbrev B (c : Dev nD) : Vec Ideal S32 .f32 := m ((c : Thread nD τ).loc main_arg4)

/-! ## The blocks of the arguments -/

theorem blk0 (c : Dev nD) (t : Fin cfg0.N) (r : Fin 960) : brow (iblk m c 0 t) r = xrow (X m c) r := by
  obtain ⟨e0, e1, e2, e3, e4, e5⟩ := idx0 t
  funext j
  unfold brow xrow
  blk_point [iblk, V, e0, e1, e2, e3, e4, e5]

theorem blk1 (c : Dev nD) (t : Fin cfg0.N) : nrow (iblk m c 1 t) = wrow (NW m c) := by
  obtain ⟨e0, e1, e2, e3, e4, e5⟩ := idx0 t
  funext j
  unfold nrow wrow
  blk_point [iblk, V, e0, e1, e2, e3, e4, e5]

theorem blk2 (c : Dev nD) (t : Fin cfg0.N) (k : Fin 4096) (q : Fin 4640) : (iblk m c 2 t : Vec Ideal S4096x4640 .i8) (ix2 k q) = W m c (ix2 k q) := by
  obtain ⟨e0, e1, e2, e3, e4, e5⟩ := idx0 t
  blk_point [iblk, V, e0, e1, e2, e3, e4, e5]

theorem blk3 (c : Dev nD) (t : Fin cfg0.N) (q : Fin 4640) : (iblk m c 3 t : Vec Ideal S1x4640 .f32) (ix2 (0 : Fin 1) q) = WS m c (ix1 q) := by
  obtain ⟨e0, e1, e2, e3, e4, e5⟩ := idx0 t
  blk_point [iblk, V, e0, e1, e2, e3, e4, e5]

theorem blk4 (c : Dev nD) (t : Fin cfg0.N) (q : Fin 32) : (iblk m c 4 t : Vec Ideal S1x32 .f32) (ix2 (0 : Fin 1) q) = B m c (ix1 q) := by
  obtain ⟨e0, e1, e2, e3, e4, e5⟩ := idx0 t
  blk_point [iblk, V, e0, e1, e2, e3, e4, e5]

theorem proj_at (c : Dev nD) (t : Fin cfg0.N) (r : Fin 960) (q : Fin 4640) :
    k0_pay1 (k0_pay9 (iblk m c 0 t) (iblk m c 1 t) (iblk m c 2 t)) (k0_pay10 (iblk m c 3 t)) (ix2 r q) = projG (X m c) (NW m c) (W m c) (WS m c) r q := by
  rw [pay1_at, blk0, blk1, blk3]
  simp only [blk2]
  unfold projG
  rfl

/-! ## The results at the one point -/

theorem out5_at (c : Dev nD) (t : Fin cfg0.N) (r : Fin 960) (q : Fin 4608) :
    out0_5 (iblk m c 0 t) (iblk m c 1 t) (iblk m c 2 t) (iblk m c 3 t) (iblk m c 4 t) (ix2 r q)
      = projG (X m c) (NW m c) (W m c) (WS m c) r ⟨q.val, by omega⟩ := by
  unfold out0_5 k0_pay11 k0_pay12
  rw [View.canon_unit_zero hz2]
  simp only [View.ld_unit_zero (S := S960x4096) hz2, View.ld_unit_zero (S := S4096x4640) hz2, View.ld_unit_zero (S := S1x4096) hz2, View.ld_unit_zero (S := S1x4640) hz2]
  rw [pay2_gen]
  exact proj_at m c t r _

theorem out6_at (c : Dev nD) (t : Fin cfg0.N) (r : Fin 960) (q : Fin 2560) :
    out0_6 (iblk m c 0 t) (iblk m c 1 t) (iblk m c 2 t) (iblk m c 3 t) (iblk m c 4 t) (ix2 r q)
      = projG (X m c) (NW m c) (W m c) (WS m c) r ⟨2048 + q.val, by omega⟩ := by
  unfold out0_6 k0_pay11 k0_pay12
  rw [View.canon_unit_zero hz2]
  simp only [View.ld_unit_zero (S := S960x4096) hz2, View.ld_unit_zero (S := S4096x4640) hz2, View.ld_unit_zero (S := S1x4096) hz2, View.ld_unit_zero (S := S1x4640) hz2]
  rw [pay3_gen]
  exact proj_at m c t r _

theorem pay8_eq (x : Vec Ideal S960x4096 .bf16) (nw : Vec Ideal S1x4096 .f32) : k0_pay8 x nw = stC (stU x nw) (stS (stM (stU x nw))) := rfl

theorem pay8_at (x : Vec Ideal S960x4096 .bf16) (nw : Vec Ideal S1x4096 .f32) (r : Fin 960) (k : Fin 4096) :
    k0_pay8 x nw (ix2 r k) = Ideal.fptosi 8 (cod (brow x r) (nrow nw) k) := by
  rw [pay8_eq, stC_at, stU_at, scl_at]
  unfold cod
  rfl

theorem pay5_gen (v : IVec S960x4096 8) (b : Fin 40) (s : Fin 24) (k : Fin 4096) :
    k0_pay5 v (ix3 b s k) = v (ix2 (⟨24 * b.val + s.val, by omega⟩ : Fin 960) k) := by
  pointwise [k0_pay5]
  exact congrArg (fun r : Fin 960 => v (ix2 r k)) (Fin.ext (by show b.val * 24 + s.val = 24 * b.val + s.val; omega))

theorem out7_at (c : Dev nD) (t : Fin cfg0.N) (r : Fin 960) (q : Fin 32) :
    out0_7 (iblk m c 0 t) (iblk m c 1 t) (iblk m c 2 t) (iblk m c 3 t) (iblk m c 4 t) (ix2 r q)
      = dtG (X m c) (NW m c) (W m c) (WS m c) (B m c) r q := by
  unfold out0_7 k0_pay11 k0_pay12
  rw [View.canon_unit_zero hz2]
  simp only [View.ld_unit_zero (S := S960x4096) hz2, View.ld_unit_zero (S := S4096x4640) hz2, View.ld_unit_zero (S := S1x4096) hz2, View.ld_unit_zero (S := S1x4640) hz2, View.ld_unit_zero (S := S1x32) hz2]
  rw [pay4_gen, blk4]
  unfold dtG
  exact congrArg (fun p => softplus (p + B m c (ix1 q))) (proj_at m c t r _)

theorem hz3 : (![0, 0, 0] : Fin 3 → Nat) = fun _ => 0 := funext fun a => by fin_cases a <;> rfl

theorem out8_at (c : Dev nD) (t : Fin cfg0.N) (b : Fin 40) (s : Fin 24) (k : Fin 4096) :
    out0_8 (iblk m c 0 t) (iblk m c 1 t) (iblk m c 2 t) (iblk m c 3 t) (iblk m c 4 t) (ix3 b s k) = ucG (X m c) (NW m c) b s k := by
  unfold out0_8
  rw [View.canon_unit_zero hz3]
  simp only [View.ld_unit_zero (S := S960x4096) hz2, View.ld_unit_zero (S := S1x4096) hz2]
  rw [pay5_gen, pay8_at, blk0, blk1]
  unfold ucG xrow
  have e1 : (⟨(24 * b.val + s.val) / 24, by omega⟩ : Fin 40) = b := Fin.ext (by show (24 * b.val + s.val) / 24 = b.val; omega)
  have e2 : (⟨(24 * b.val + s.val) % 24, by omega⟩ : Fin 24) = s := Fin.ext (by show (24 * b.val + s.val) % 24 = s.val; omega)
  simp only [e1, e2]

/-! ## The arrays after the run -/

/-- The results as functions of the arguments. -/
def res4 (c : Dev nD) : S960x4608.Idx → Elt Ideal main_v4_0.ty.elt := fun i => projG (X m c) (NW m c) (W m c) (WS m c) (i 0) ⟨(i 1).val, Nat.lt_trans (i 1).isLt (by decide)⟩
def res5 (c : Dev nD) : S960x2560.Idx → Elt Ideal main_v4_1.ty.elt := fun i => projG (X m c) (NW m c) (W m c) (WS m c) (i 0) ⟨2048 + (i 1).val, Nat.add_lt_add_left (i 1).isLt 2048 |>.trans (by decide)⟩
def res6 (c : Dev nD) : S40x24x4096.Idx → Elt Ideal main_v4_3.ty.elt := fun i => ucG (X m c) (NW m c) (i 0) (i 1) (i 2)
def res7 (c : Dev nD) : S960x32.Idx → Elt Ideal main_v4_2.ty.elt := fun i => dtG (X m c) (NW m c) (W m c) (WS m c) (B m c) (i 0) (i 1)
theorem final5 (c : Dev nD) : (dats m 0 c).arrAt 5 cfg0.N = res4 m c := by
  refine (dats m 0 c).arrAt_eq_of_cover 5 _ (fun t hf => ?_) (fun i => ?_)
  · obtain rfl := t00_only t
    show (cfg0.win 5).cut (grid0.coords t00) ((dats m 0 c).after 5 t00) = _
    have hz' : (fun a => win0_5.index t00 a * main_v4_0.ty.shape.size a) = fun _ => 0 := funext fun a => by fin_cases a <;> decide
    rw [after0_5, show out0_5 (iblk m c 0 t00) (iblk m c 1 t00) (iblk m c 2 t00) (iblk m c 3 t00) (iblk m c 4 t00) = res4 m c from funext fun y => by
      idx_vars y
      exact out5_at m c t00 _ _]
    exact (Memref.read_access_unit_zero (Elt Ideal) main_v4_0 hz' (fun a => by rw [congrFun hz' a]; simp) _).symm
  · refine ⟨t00, by decide +kernel, ?_⟩
    change S960x4608.Idx at i
    show i ∈ ((View.whole main_v4_0).slice (win0_5.rect t00)).set
    rw [View.set_slice_whole, Rect.mem_set_unit]
    intro a
    have h0 : (i 0 : Nat) < 960 := (i 0).isLt
    have h1 : (i 1 : Nat) < 4608 := (i 1).isLt
    match a with
    | ⟨0, _⟩ => show 0 ≤ (i 0 : Nat) ∧ (i 0 : Nat) < 960
                omega
    | ⟨1, _⟩ => show 0 ≤ (i 1 : Nat) ∧ (i 1 : Nat) < 4608
                omega

theorem final6 (c : Dev nD) : (dats m 0 c).arrAt 6 cfg0.N = res5 m c := by
  refine (dats m 0 c).arrAt_eq_of_cover 6 _ (fun t hf => ?_) (fun i => ?_)
  · obtain rfl := t00_only t
    show (cfg0.win 6).cut (grid0.coords t00) ((dats m 0 c).after 6 t00) = _
    have hz' : (fun a => win0_6.index t00 a * main_v4_1.ty.shape.size a) = fun _ => 0 := funext fun a => by fin_cases a <;> decide
    rw [after0_6, show out0_6 (iblk m c 0 t00) (iblk m c 1 t00) (iblk m c 2 t00) (iblk m c 3 t00) (iblk m c 4 t00) = res5 m c from funext fun y => by
      idx_vars y
      exact out6_at m c t00 _ _]
    exact (Memref.read_access_unit_zero (Elt Ideal) main_v4_1 hz' (fun a => by rw [congrFun hz' a]; simp) _).symm
  · refine ⟨t00, by decide +kernel, ?_⟩
    change S960x2560.Idx at i
    show i ∈ ((View.whole main_v4_1).slice (win0_6.rect t00)).set
    rw [View.set_slice_whole, Rect.mem_set_unit]
    intro a
    have h0 : (i 0 : Nat) < 960 := (i 0).isLt
    have h1 : (i 1 : Nat) < 2560 := (i 1).isLt
    match a with
    | ⟨0, _⟩ => show 0 ≤ (i 0 : Nat) ∧ (i 0 : Nat) < 960
                omega
    | ⟨1, _⟩ => show 0 ≤ (i 1 : Nat) ∧ (i 1 : Nat) < 2560
                omega

theorem final7 (c : Dev nD) : (dats m 0 c).arrAt 7 cfg0.N = res7 m c := by
  refine (dats m 0 c).arrAt_eq_of_cover 7 _ (fun t hf => ?_) (fun i => ?_)
  · obtain rfl := t00_only t
    show (cfg0.win 7).cut (grid0.coords t00) ((dats m 0 c).after 7 t00) = _
    have hz' : (fun a => win0_7.index t00 a * main_v4_2.ty.shape.size a) = fun _ => 0 := funext fun a => by fin_cases a <;> decide
    rw [after0_7, show out0_7 (iblk m c 0 t00) (iblk m c 1 t00) (iblk m c 2 t00) (iblk m c 3 t00) (iblk m c 4 t00) = res7 m c from funext fun y => by
      idx_vars y
      exact out7_at m c t00 _ _]
    exact (Memref.read_access_unit_zero (Elt Ideal) main_v4_2 hz' (fun a => by rw [congrFun hz' a]; simp) _).symm
  · refine ⟨t00, by decide +kernel, ?_⟩
    change S960x32.Idx at i
    show i ∈ ((View.whole main_v4_2).slice (win0_7.rect t00)).set
    rw [View.set_slice_whole, Rect.mem_set_unit]
    intro a
    have h0 : (i 0 : Nat) < 960 := (i 0).isLt
    have h1 : (i 1 : Nat) < 32 := (i 1).isLt
    match a with
    | ⟨0, _⟩ => show 0 ≤ (i 0 : Nat) ∧ (i 0 : Nat) < 960
                omega
    | ⟨1, _⟩ => show 0 ≤ (i 1 : Nat) ∧ (i 1 : Nat) < 32
                omega

theorem final8 (c : Dev nD) : (dats m 0 c).arrAt 8 cfg0.N = res6 m c := by
  refine (dats m 0 c).arrAt_eq_of_cover 8 _ (fun t hf => ?_) (fun i => ?_)
  · obtain rfl := t00_only t
    show (cfg0.win 8).cut (grid0.coords t00) ((dats m 0 c).after 8 t00) = _
    have hz' : (fun a => win0_8.index t00 a * main_v4_3.ty.shape.size a) = fun _ => 0 := funext fun a => by fin_cases a <;> decide
    rw [after0_8, show out0_8 (iblk m c 0 t00) (iblk m c 1 t00) (iblk m c 2 t00) (iblk m c 3 t00) (iblk m c 4 t00) = res6 m c from funext fun y => by
      idx_vars y
      exact out8_at m c t00 _ _ _]
    exact (Memref.read_access_unit_zero (Elt Ideal) main_v4_3 hz' (fun a => by rw [congrFun hz' a]; simp) _).symm
  · refine ⟨t00, by decide +kernel, ?_⟩
    change S40x24x4096.Idx at i
    show i ∈ ((View.whole main_v4_3).slice (win0_8.rect t00)).set
    rw [View.set_slice_whole, Rect.mem_set_unit]
    intro a
    have h0 : (i 0 : Nat) < 40 := (i 0).isLt
    have h1 : (i 1 : Nat) < 24 := (i 1).isLt
    have h2 : (i 2 : Nat) < 4096 := (i 2).isLt
    match a with
    | ⟨0, _⟩ => show 0 ≤ (i 0 : Nat) ∧ (i 0 : Nat) < 40
                omega
    | ⟨1, _⟩ => show 0 ≤ (i 1 : Nat) ∧ (i 1 : Nat) < 24
                omega
    | ⟨2, _⟩ => show 0 ≤ (i 2 : Nat) ∧ (i 2 : Nat) < 4096
                omega

theorem run : θ_run defs (onTc (τ := τ) (main (F := Ideal))) ⟨m, fun _ => 0, ρ⟩ fun r => ∀ c : Dev nD,
      r.2.mem ((c : Thread nD τ).loc main_v4_0) = res4 m c
      ∧ r.2.mem ((c : Thread nD τ).loc main_v4_1) = res5 m c
      ∧ r.2.mem ((c : Thread nD τ).loc main_v4_2) = res7 m c
      ∧ r.2.mem ((c : Thread nD τ).loc main_v4_3) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 5).trans (final5 m c),
      ((h c).1 6).trans (final6 m c),
      ((h c).1 7).trans (final7 m c),
      ((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.InRefIdeal.Hand

end
-- ==== Proof.InPre.lean ====
/- What the precondition says: every word of the table of accepted tokens is below 24, so the row each load of the
   in-projection call names is one of the 24 there are. -/
module

public import proofs.«01_k».proof.Defs
public import proofs.«01_k».proof.Proof.InFrame
public import proofs.«01_k».proof.Proof.InIdLoop

@[expose] public section

set_option maxRecDepth 16384

noncomputable section

namespace Cert.InPre

open Idealize.ShloMosaic Idealize.ShloMosaic.TcCoe

theorem facts : Cert.Pre_rows_in_range.Facts := ⟨by decide⟩

section
open Cert.Pre_rows_in_range

theorem rows_of [Cert.Pre_rows_in_range.Facts] {F : FTy → Type} [FloatOps F] (a0 : FVec F S40x24x4096 .bf16) (a1 : FVec F S4096 .f32) (a2 : IVec S4096x4640 8) (a3 : FVec F S4640 .f32) (a4 : FVec F S32 .f32) (a5 : FVec F S32 .f32) (a6 : FVec F S40x32x64x128 .fp8e4m3) (a7 : FVec F S40x32x64 .f32) (a8 : IVec S40x24x2048 8) (a9 : FVec F S40x24x32 .f32) (a10 : IVec S40x24x2x128 8) (a11 : FVec F S40x24x2 .f32) (a12 : FVec F S40x24x32 .f32) (a13 : IVec S40x7 32) (a14 : IVec S40 32)
    (h : fn (F := F) a0 a1 a2 a3 a4 a5 a6 a7 a8 a9 a10 a11 a12 a13 a14 = fun _ => 1#1) (y : S40x7.Idx) : BitVec.toNat (w := 32) (a13 y) < 24 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega
end

theorem rows_bits [Cert.Pre_rows_in_range.Facts] (m : (ℓ : Loc Cert.InProj.nD Cert.InProj.τ Cert.InProj.sig) → Buf (Elt Bits) ℓ) (h : Cert.Pre_InProj m) :
    ∀ c t, Cert.InProj.Hand.Rows (Cert.InProj.Gen.iblk m c 0 t) := fun c t y => by
  unfold Cert.InProj.Gen.iblk
  rw [View.read_apply, cast_eq]
  rw [show Cert.InProj.Gen.V m c (Pipeline.arrRef Cert.InProj.spec0 0) = m ((c.tc : Thread Cert.InProj.nD Cert.InProj.τ).loc Cert.InProj.main_arg13) from Cert.InProj.Gen.V_main_arg13 m c]
  exact rows_of _ _ _ _ _ _ _ _ _ _ _ _ _ _ _ (h c) _

theorem rows_ideal [Cert.Pre_rows_in_range.Facts] (m : (ℓ : Loc Cert.InProjIdeal.nD Cert.InProjIdeal.τ Cert.InProjIdeal.sig) → Buf (Elt Ideal) ℓ) (h : Cert.Pre_InProjIdeal m) :
    ∀ c t, Cert.InProjIdeal.Hand.Rows (Cert.InProjIdeal.Gen.iblk m c 0 t) := fun c t y => by
  unfold Cert.InProjIdeal.Gen.iblk
  rw [View.read_apply, cast_eq]
  rw [show Cert.InProjIdeal.Gen.V m c (Pipeline.arrRef Cert.InProjIdeal.spec0 0) = m ((c.tc : Thread Cert.InProjIdeal.nD Cert.InProjIdeal.τ).loc Cert.InProjIdeal.main_arg13) from Cert.InProjIdeal.Gen.V_main_arg13 m c]
  exact rows_of _ _ _ _ _ _ _ _ _ _ _ _ _ _ _ (h c) _

end Cert.InPre

end
-- ==== Proof.OutRefVal.lean ====
module

public import proofs.«01_k».proof.Proof.OutMath
public import proofs.«01_k».proof.Proof.Gen.OutRefIdeal.Value
public import Idealize.ShloMosaic.Lib.Pipeline.ValueKit

@[expose] public section

set_option maxRecDepth 16384

noncomputable section

namespace Cert.OutRefIdeal.Hand

open Cert.OutRefIdeal Cert.OutRefIdeal.Gen Cert.OutRefIdeal.Value Cert.OutMath
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

theorem sitofp_eq (b : BitVec 8) : (FloatOps.sitofp (F := Ideal) .bf16 b : EReal) = ((b.toInt : ℝ) : EReal) := rfl

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

/-- The one grid point. -/
def t00 : Fin cfg0.N := ⟨0, by decide⟩

theorem blockVal (c : Dev nD) (t : Fin cfg0.N) (y : S960x4096.Idx) :
    out0_5 (iblk m c 0 t) (iblk m c 1 t) (iblk m c 2 t) (iblk m c 3 t) (iblk m c 4 t) y
      = outG (m ((c : Thread nD τ).loc main_arg0)) (m ((c : Thread nD τ).loc main_arg1))
    (m ((c : Thread nD τ).loc main_arg2)) (m ((c : Thread nD τ).loc main_arg3)) (m ((c : Thread nD τ).loc main_arg4)) (y 0) (y 1) := by
  obtain ⟨e0, e1, e2, e3, e4, e5⟩ := idx0 t
  unfold out0_5
  rw [View.canon_unit_zero hz2]
  simp only [View.ld_unit_zero (S := S960x2048) hz2, View.ld_unit_zero (S := S2048x4096) hz2, View.ld_unit_zero (S := S1x4096) hz2, View.ld_unit_zero (S := S960x1) hz2, View.ld_unit_zero (S := S960x4096) hz2]
  idx_vars y
  pointwise [k0_pay1, outG]
  simp only [sitofp_eq]
  blk_point [iblk, V, e0, e1, e2, e3, e4, e5]

theorem final_eq (c : Dev nD) : (dats m 0 c).arrAt 5 cfg0.N = fun i => outG (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) := by
  refine (dats m 0 c).arrAt_eq_of_cover 5 _ (fun t hf => ?_) (fun i => ?_)
  · obtain rfl : t = t00 := Fin.ext (by have h1 : t.val < cfg0.N := t.isLt; have h2 : cfg0.N = 1 := N_0; show t.val = 0; omega)
    show (cfg0.win 5).cut (grid0.coords t00) ((dats m 0 c).after 5 t00) = _
    have hz' : (fun a => win0_5.index t00 a * main_v4.ty.shape.size a) = fun _ => 0 := funext fun a => by fin_cases a <;> decide
    rw [after0_5, show out0_5 (iblk m c 0 t00) (iblk m c 1 t00) (iblk m c 2 t00) (iblk m c 3 t00) (iblk m c 4 t00) = _ from funext (blockVal m c t00)]
    exact (Memref.read_access_unit_zero (Elt Ideal) main_v4 hz' (fun a => by rw [congrFun hz' a]; simp) _).symm
  · refine ⟨t00, by decide +kernel, ?_⟩
    change S960x4096.Idx at i
    show i ∈ ((View.whole main_v4).slice (win0_5.rect t00)).set
    rw [View.set_slice_whole, Rect.mem_set_unit]
    intro a
    have h0 : (i 0 : Nat) < 960 := (i 0).isLt
    have h1 : (i 1 : Nat) < 4096 := (i 1).isLt
    match a with
    | ⟨0, _⟩ => show 0 ≤ (i 0 : Nat) ∧ (i 0 : Nat) < 960
                omega
    | ⟨1, _⟩ => show 0 ≤ (i 1 : Nat) ∧ (i 1 : Nat) < 4096
                omega

theorem run : θ_run defs (onTc (τ := τ) (main (F := Ideal))) ⟨m, fun _ => 0, ρ⟩ fun r => ∀ c : Dev nD,
      r.2.mem ((c : Thread nD τ).loc main_v4) = (fun i => outG (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) : S960x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩) (run_blocks m ρ)

end Cert.OutRefIdeal.Hand

end
-- ==== Proof.lean ====
module

public import proofs.«01_k».proof.Defs
public import proofs.«01_k».proof.Proof.Gen.OutProj
public import proofs.«01_k».proof.Proof.Gen.OutProj.Skeleton
public import proofs.«01_k».proof.Proof.Gen.OutProj.Loops
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Loops
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.OutProjIdeal.Value
public import proofs.«01_k».proof.Proof.Gen.OutRefIdeal.Value
public import proofs.«01_k».proof.Proof.OutFinal
public import proofs.«01_k».proof.Proof.InFrame
public import proofs.«01_k».proof.Proof.InIdFrame
public import proofs.«01_k».proof.Proof.InRefVal
public import proofs.«01_k».proof.Proof.InPre
public import proofs.«01_k».proof.Proof.OutRefVal
public import Idealize.ShloMosaic.Adequacy
public import Idealize.ShloMosaic.Init

@[expose] public section

noncomputable section

namespace Cert.Proof

open Idealize.ShloMosaic Idealize.SL.Sem Cert.OutProj

/-- The output projection: the kernel's blocks, put together, are the reference's one array. -/
theorem algebraic_out : algebraic_OutProjIdeal_OutRefIdeal (hOutProjIdeal := Cert.OutProjIdeal.Gen.facts) (hOutRefIdeal := Cert.OutRefIdeal.Gen.facts) := by
  intro m g m' g' _ hag
  refine ⟨_, Cert.OutProjIdeal.Hand.run m g, ?_⟩
  refine (θ_run _ _ _).mono (fun r h c => ⟨(h c).1.trans ?_, (h c).2⟩) (Cert.OutRefIdeal.Hand.run m' g')
  obtain ⟨a0, a1, a2, a3, a4⟩ := hag c
  rw [a0, a1, a2, a3, a4]

/-- The in-projection: the kernel's column blocks, put together, are the columns of the reference's one
    product, and its blocks of the codes are the reference's codes. -/
theorem algebraic_in : algebraic_InProjIdeal_InRefIdeal (hInProjIdeal := Cert.InProjIdeal.Gen.facts) (hInRefIdeal := Cert.InRefIdeal.Gen.facts)
    (hPre_rows_in_range := Cert.InPre.facts) := by
  haveI := Cert.InPre.facts
  intro m g m' g' hpre hag
  refine ⟨_, _, _, _, Cert.InProjIdeal.Hand.run m g (Cert.InPre.rows_ideal m hpre), ?_⟩
  have same : ∀ c, Cert.InRefIdeal.Hand.X m' c = Cert.InProjIdeal.Hand.X m c ∧ Cert.InRefIdeal.Hand.NW m' c = Cert.InProjIdeal.Hand.NW m c
      ∧ Cert.InRefIdeal.Hand.W m' c = Cert.InProjIdeal.Hand.W m c ∧ Cert.InRefIdeal.Hand.WS m' c = Cert.InProjIdeal.Hand.WS m c
      ∧ Cert.InRefIdeal.Hand.B m' c = Cert.InProjIdeal.Hand.B m c := fun c =>
    ⟨(hag c).1, (hag c).2.1, (hag c).2.2.1, (hag c).2.2.2.1, (hag c).2.2.2.2.1⟩
  have e4 : ∀ c, Cert.InRefIdeal.Hand.res4 m' c = Cert.InProjIdeal.Hand.res4 m c := fun c => by
    obtain ⟨a0, a1, a2, a3, a4⟩ := same c
    unfold Cert.InRefIdeal.Hand.res4 Cert.InProjIdeal.Hand.res4
    rw [a0, a1, a2, a3]
  have e5 : ∀ c, Cert.InRefIdeal.Hand.res5 m' c = Cert.InProjIdeal.Hand.res5 m c := fun c => by
    obtain ⟨a0, a1, a2, a3, a4⟩ := same c
    unfold Cert.InRefIdeal.Hand.res5 Cert.InProjIdeal.Hand.res5
    rw [a0, a1, a2, a3]
  have e6 : ∀ c, Cert.InRefIdeal.Hand.res6 m' c = Cert.InProjIdeal.Hand.res6 m c := fun c => by
    obtain ⟨a0, a1, a2, a3, a4⟩ := same c
    unfold Cert.InRefIdeal.Hand.res6 Cert.InProjIdeal.Hand.res6
    rw [a0, a1]
  have e7 : ∀ c, Cert.InRefIdeal.Hand.res7 m' c = Cert.InProjIdeal.Hand.dtR m c := fun c => by
    obtain ⟨a0, a1, a2, a3, a4⟩ := same c
    unfold Cert.InRefIdeal.Hand.res7 Cert.InProjIdeal.Hand.dtR
    rw [a0, a1, a2, a3, a4]
  exact (θ_run _ _ _).mono (fun r h c => ⟨(h c).1.trans (e4 c), (h c).2.1.trans (e5 c), (h c).2.2.1.trans (e7 c), (h c).2.2.2.1.trans (e6 c), (h c).2.2.2.2⟩) (Cert.InRefIdeal.Hand.run m' g')

theorem claim : Cert.Claim := ⟨Cert.OutProj.Gen.facts, Cert.OutProjIdeal.Gen.facts, Cert.OutRefIdeal.Gen.facts,
  Cert.InProj.Gen.facts, Cert.InProjIdeal.Gen.facts, Cert.InRefIdeal.Gen.facts, Cert.InPre.facts,
  fun m ρ _ => Cert.OutProj.Gen.frame m ρ, fun m ρ _ => Cert.OutProjIdeal.Gen.frame m ρ, fun m ρ _ => Cert.OutRefIdeal.Gen.frame m ρ,
  (haveI := Cert.InPre.facts; fun m ρ h => Cert.InProj.Hand.frame m ρ (Cert.InPre.rows_bits m h)),
  (haveI := Cert.InPre.facts; fun m ρ h => Cert.InProjIdeal.Hand.frame m ρ (Cert.InPre.rows_ideal m h)),
  fun m ρ _ => Cert.InRefIdeal.Gen.frame m ρ, fun m ρ _ => Cert.InRefIdeal.Gen.frame m ρ,
  trivial, algebraic_out, trivial, algebraic_in⟩

end Cert.Proof

end
